-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_center_x [hPre_finite_center_x : Cert.Pre_finite_center_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_center_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_center_x [hPre_finite_center_x : Cert.Pre_finite_center_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_center_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_center_x [hKernelIdeal : Cert.KernelIdeal.Facts] [hPre_finite_center_x : Cert.Pre_finite_center_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_center_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_center_x [hReferenceIdeal : Cert.ReferenceIdeal.Facts] [hPre_finite_center_x : Cert.Pre_finite_center_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_center_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_center_x [hKernelIdeal : Cert.KernelIdeal.Facts] [hReferenceIdeal : Cert.ReferenceIdeal.Facts] [hPre_finite_center_x : Cert.Pre_finite_center_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_center_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_center_x : Cert.Pre_finite_center_x.Facts),
    quiescent_Kernel (hKernel := hKernel)
    ∧ quiescent_KernelIdeal (hKernelIdeal := hKernelIdeal)
    ∧ quiescent_KernelIdeal_pre_finite_center_x (hKernelIdeal := hKernelIdeal) (hPre_finite_center_x := hPre_finite_center_x)
    ∧ quiescent_ReferenceIdeal (hReferenceIdeal := hReferenceIdeal)
    ∧ quiescent_ReferenceIdeal_pre_finite_center_x (hReferenceIdeal := hReferenceIdeal) (hPre_finite_center_x := hPre_finite_center_x)
    ∧ preserves_Kernel_KernelIdeal
    ∧ algebraic_KernelIdeal_ReferenceIdeal_pre_finite_center_x (hKernelIdeal := hKernelIdeal) (hReferenceIdeal := hReferenceIdeal) (hPre_finite_center_x := hPre_finite_center_x)
-- ==== Pre_finite_center_x.lean ====
abbrev S4096x64 : Shape := ⟨2, ![4096, 64]⟩
abbrev S4096x64x32 : Shape := ⟨3, ![4096, 64, 32]⟩
abbrev S4096x64x33 : Shape := ⟨3, ![4096, 64, 33]⟩
abbrev S_ : Shape := ⟨0, ![]⟩

class Facts : Prop where
  bcast_S_S4096x64 : S_.BroadcastsInDim S4096x64 (![] : Fin 0 → Fin S4096x64.rank)

variable [Facts]

def fn {F : FTy → Type} [FloatOps F] (main_arg0 : FVec F S4096x64 .f32) (main_arg1 : FVec F S4096x64x32 .f32) (main_arg2 : FVec F S4096x64x32 .f32) (main_arg3 : FVec F S4096x64x33 .f32) (main_arg4 : FVec F S4096x64 .f32) (main_arg5 : FVec F S4096x64 .f32) : IVec S4096x64 1 :=
  let main_v0 : FVec F S4096x64 .f32 := Host.absf main_arg4
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  main_v2
-- ==== Kernel.lean ====
abbrev S4096x64 : Shape := ⟨2, ![4096, 64]⟩
abbrev S4096x64x32 : Shape := ⟨3, ![4096, 64, 32]⟩
abbrev S4096x64x33 : Shape := ⟨3, ![4096, 64, 33]⟩
abbrev S4096x2048 : Shape := ⟨2, ![4096, 2048]⟩
abbrev S4096x2112 : Shape := ⟨2, ![4096, 2112]⟩
abbrev S512x64 : Shape := ⟨2, ![512, 64]⟩
abbrev S512x2048 : Shape := ⟨2, ![512, 2048]⟩
abbrev S512x2112 : Shape := ⟨2, ![512, 2112]⟩
abbrev S64x512 : Shape := ⟨2, ![64, 512]⟩
abbrev S2048x512 : Shape := ⟨2, ![2048, 512]⟩
abbrev S64x32x512 : Shape := ⟨3, ![64, 32, 512]⟩
abbrev S64x1x512 : Shape := ⟨3, ![64, 1, 512]⟩
abbrev S64x31x512 : Shape := ⟨3, ![64, 31, 512]⟩
abbrev S64x2x512 : Shape := ⟨3, ![64, 2, 512]⟩
abbrev S64x30x512 : Shape := ⟨3, ![64, 30, 512]⟩
abbrev S64x4x512 : Shape := ⟨3, ![64, 4, 512]⟩
abbrev S64x28x512 : Shape := ⟨3, ![64, 28, 512]⟩
abbrev S64x8x512 : Shape := ⟨3, ![64, 8, 512]⟩
abbrev S64x24x512 : Shape := ⟨3, ![64, 24, 512]⟩
abbrev S64x16x512 : Shape := ⟨3, ![64, 16, 512]⟩
abbrev S64x33x512 : Shape := ⟨3, ![64, 33, 512]⟩
abbrev S2112x512 : Shape := ⟨2, ![2112, 512]⟩

abbrev nBuf : Space → Nat
  | .hbm => 11
  | .vmem => 16
  | .smem => 0
  | _ => 0

abbrev bufTy : (tb : Table) → Fin (tcTables nBuf tb) → BufTy
  | .hbm, ⟨0, _⟩ => ⟨S4096x64, .f32⟩
  | .hbm, ⟨1, _⟩ => ⟨S4096x64x32, .f32⟩
  | .hbm, ⟨2, _⟩ => ⟨S4096x64x32, .f32⟩
  | .hbm, ⟨3, _⟩ => ⟨S4096x64x33, .f32⟩
  | .hbm, ⟨4, _⟩ => ⟨S4096x64, .f32⟩
  | .hbm, ⟨5, _⟩ => ⟨S4096x64, .f32⟩
  | .hbm, ⟨6, _⟩ => ⟨S4096x2048, .f32⟩
  | .hbm, ⟨7, _⟩ => ⟨S4096x2048, .f32⟩
  | .hbm, ⟨8, _⟩ => ⟨S4096x2112, .f32⟩
  | .hbm, ⟨9, _⟩ => ⟨S4096x64, .f32⟩
  | .hbm, ⟨10, _⟩ => ⟨S4096x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2112, .f32⟩
  | .local _ .vmem, ⟨11, _⟩ => ⟨S512x2112, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x64 : Shape := ⟨2, ![4096, 64]⟩
abbrev S4096x64x32 : Shape := ⟨3, ![4096, 64, 32]⟩
abbrev S4096x64x33 : Shape := ⟨3, ![4096, 64, 33]⟩
abbrev S_ : Shape := ⟨0, ![]⟩
abbrev S4096x64x1 : Shape := ⟨3, ![4096, 64, 1]⟩
abbrev S4096x64x1x1 : Shape := ⟨4, ![4096, 64, 1, 1]⟩
abbrev S1 : Shape := ⟨1, ![1]⟩
abbrev S1x1x1x1 : Shape := ⟨4, ![1, 1, 1, 1]⟩

abbrev nBuf : Space → Nat
  | .hbm => 344
  | .vmem => 0
  | .smem => 0
  | _ => 0

abbrev hbmTy0_0 (i : Nat) : BufTy := match i % 128 with
  | 0 => ⟨S4096x64, .f32⟩
  | 1 => ⟨S4096x64x32, .f32⟩
  | 2 => ⟨S4096x64x32, .f32⟩
  | 3 => ⟨S4096x64x33, .f32⟩
  | 4 => ⟨S4096x64, .f32⟩
  | 5 => ⟨S4096x64, .f32⟩
  | 6 => ⟨S_, .f32⟩
  | 7 => ⟨S4096x64x32, .f32⟩
  | 8 => ⟨S4096x64x32, .f32⟩
  | 9 => ⟨S4096x64x32, .f32⟩
  | 10 => ⟨S4096x64x32, .f32⟩
  | 11 => ⟨S4096x64x32, .i1⟩
  | 12 => ⟨S4096x64x32, .f32⟩
  | 13 => ⟨S4096x64x32, .f32⟩
  | 14 => ⟨S4096x64x32, .f32⟩
  | 15 => ⟨S4096x64x32, .f32⟩
  | 16 => ⟨S4096x64x32, .f32⟩
  | 17 => ⟨S4096x64x32, .f32⟩
  | 18 => ⟨S4096x64x32, .f32⟩
  | 19 => ⟨S4096x64x32, .f32⟩
  | 20 => ⟨S_, .f32⟩
  | 21 => ⟨S4096x64x32, .f32⟩
  | 22 => ⟨S4096x64x32, .f32⟩
  | 23 => ⟨S4096x64x32, .f32⟩
  | 24 => ⟨S4096x64x32, .f32⟩
  | 25 => ⟨S4096x64x32, .i1⟩
  | 26 => ⟨S4096x64x32, .f32⟩
  | 27 => ⟨S4096x64x32, .f32⟩
  | 28 => ⟨S4096x64x32, .f32⟩
  | 29 => ⟨S4096x64x32, .f32⟩
  | 30 => ⟨S4096x64x32, .f32⟩
  | 31 => ⟨S4096x64x32, .f32⟩
  | 32 => ⟨S4096x64x32, .f32⟩
  | 33 => ⟨S4096x64x32, .f32⟩
  | 34 => ⟨S_, .f32⟩
  | 35 => ⟨S4096x64x33, .f32⟩
  | 36 => ⟨S4096x64x33, .f32⟩
  | 37 => ⟨S4096x64x33, .f32⟩
  | 38 => ⟨S4096x64x33, .f32⟩
  | 39 => ⟨S4096x64x33, .i1⟩
  | 40 => ⟨S4096x64x33, .f32⟩
  | 41 => ⟨S4096x64x33, .f32⟩
  | 42 => ⟨S4096x64x33, .f32⟩
  | 43 => ⟨S4096x64x33, .f32⟩
  | 44 => ⟨S4096x64x33, .f32⟩
  | 45 => ⟨S4096x64x33, .f32⟩
  | 46 => ⟨S4096x64x33, .f32⟩
  | 47 => ⟨S4096x64x33, .f32⟩
  | 48 => ⟨S_, .f32⟩
  | 49 => ⟨S4096x64x32, .f32⟩
  | 50 => ⟨S4096x64x32, .f32⟩
  | 51 => ⟨S_, .f32⟩
  | 52 => ⟨S4096x64x32, .f32⟩
  | 53 => ⟨S4096x64x32, .f32⟩
  | 54 => ⟨S_, .f32⟩
  | 55 => ⟨S4096x64x33, .f32⟩
  | 56 => ⟨S4096x64x33, .f32⟩
  | 57 => ⟨S_, .f32⟩
  | 58 => ⟨S_, .f32⟩
  | 59 => ⟨S4096x64x32, .f32⟩
  | 60 => ⟨S_, .f32⟩
  | 61 => ⟨S_, .f32⟩
  | 62 => ⟨S4096x64x33, .f32⟩
  | 63 => ⟨S4096x64x1, .f32⟩
  | 64 => ⟨S_, .f32⟩
  | 65 => ⟨S4096x64x1, .f32⟩
  | 66 => ⟨S4096x64x1, .f32⟩
  | 67 => ⟨S4096x64x33, .f32⟩
  | 68 => ⟨S4096x64x33, .f32⟩
  | 69 => ⟨S4096x64x1, .f32⟩
  | 70 => ⟨S4096x64x33, .f32⟩
  | 71 => ⟨S4096x64x33, .f32⟩
  | 72 => ⟨S_, .f32⟩
  | 73 => ⟨S_, .f32⟩
  | 74 => ⟨S4096x64x32, .f32⟩
  | 75 => ⟨S_, .f32⟩
  | 76 => ⟨S_, .f32⟩
  | 77 => ⟨S4096x64x33, .f32⟩
  | 78 => ⟨S4096x64x1, .f32⟩
  | 79 => ⟨S_, .f32⟩
  | 80 => ⟨S4096x64x1, .f32⟩
  | 81 => ⟨S4096x64x1, .f32⟩
  | 82 => ⟨S4096x64x33, .f32⟩
  | 83 => ⟨S4096x64x33, .f32⟩
  | 84 => ⟨S4096x64x1, .f32⟩
  | 85 => ⟨S4096x64x33, .f32⟩
  | 86 => ⟨S4096x64x33, .f32⟩
  | 87 => ⟨S_, .f32⟩
  | 88 => ⟨S4096x64, .f32⟩
  | 89 => ⟨S_, .f32⟩
  | 90 => ⟨S4096x64, .f32⟩
  | 91 => ⟨S4096x64x1, .f32⟩
  | 92 => ⟨S4096x64, .f32⟩
  | 93 => ⟨S4096x64, .i1⟩
  | 94 => ⟨S4096x64x1, .f32⟩
  | 95 => ⟨S4096x64, .f32⟩
  | 96 => ⟨S4096x64, .i1⟩
  | 97 => ⟨S4096x64x1, .f32⟩
  | 98 => ⟨S4096x64, .f32⟩
  | 99 => ⟨S4096x64x1, .f32⟩
  | 100 => ⟨S4096x64, .f32⟩
  | 101 => ⟨S4096x64, .f32⟩
  | 102 => ⟨S4096x64x1, .f32⟩
  | 103 => ⟨S4096x64, .f32⟩
  | 104 => ⟨S4096x64, .f32⟩
  | 105 => ⟨S4096x64, .f32⟩
  | 106 => ⟨S4096x64, .f32⟩
  | 107 => ⟨S4096x64x1, .f32⟩
  | 108 => ⟨S4096x64, .f32⟩
  | 109 => ⟨S4096x64, .f32⟩
  | 110 => ⟨S4096x64x1, .f32⟩
  | 111 => ⟨S4096x64, .f32⟩
  | 112 => ⟨S4096x64, .f32⟩
  | 113 => ⟨S4096x64x1, .f32⟩
  | 114 => ⟨S4096x64, .f32⟩
  | 115 => ⟨S4096x64, .f32⟩
  | 116 => ⟨S4096x64, .f32⟩
  | 117 => ⟨S4096x64x1, .f32⟩
  | 118 => ⟨S4096x64, .f32⟩
  | 119 => ⟨S4096x64, .f32⟩
  | 120 => ⟨S4096x64, .f32⟩
  | 121 => ⟨S4096x64x1, .f32⟩
  | 122 => ⟨S4096x64, .f32⟩
  | 123 => ⟨S4096x64, .f32⟩
  | 124 => ⟨S4096x64, .f32⟩
  | 125 => ⟨S4096x64, .i1⟩
  | 126 => ⟨S4096x64, .i1⟩
  | 127 => ⟨S4096x64, .f32⟩
  | _ => ⟨S4096x64, .f32⟩

abbrev hbmTy0_1 (i : Nat) : BufTy := match i % 128 with
  | 0 => ⟨S4096x64x1, .f32⟩
  | 1 => ⟨S4096x64x33, .f32⟩
  | 2 => ⟨S4096x64x33, .i1⟩
  | 3 => ⟨S4096x64x33, .i32⟩
  | 4 => ⟨S_, .i32⟩
  | 5 => ⟨S4096x64, .i32⟩
  | 6 => ⟨S_, .i32⟩
  | 7 => ⟨S4096x64, .i32⟩
  | 8 => ⟨S4096x64, .i32⟩
  | 9 => ⟨S4096x64x1, .i32⟩
  | 10 => ⟨S_, .i32⟩
  | 11 => ⟨S4096x64x1, .i32⟩
  | 12 => ⟨S4096x64x1, .i1⟩
  | 13 => ⟨S_, .i32⟩
  | 14 => ⟨S4096x64x1, .i32⟩
  | 15 => ⟨S4096x64x1, .i32⟩
  | 16 => ⟨S4096x64x1, .i32⟩
  | 17 => ⟨S4096x64x1x1, .i32⟩
  | 18 => ⟨S1, .i32⟩
  | 19 => ⟨S_, .i32⟩
  | 20 => ⟨S4096x64x1x1, .i32⟩
  | 21 => ⟨S4096x64x1x1, .i1⟩
  | 22 => ⟨S1x1x1x1, .i32⟩
  | 23 => ⟨S4096x64x1x1, .i32⟩
  | 24 => ⟨S4096x64x1x1, .i1⟩
  | 25 => ⟨S4096x64x1x1, .i1⟩
  | 26 => ⟨S_, .i1⟩
  | 27 => ⟨S4096x64x1, .i1⟩
  | 28 => ⟨S4096x64x1, .f32⟩
  | 29 => ⟨S_, .f32⟩
  | 30 => ⟨S4096x64x1, .f32⟩
  | 31 => ⟨S4096x64x1, .f32⟩
  | 32 => ⟨S4096x64, .f32⟩
  | 33 => ⟨S_, .i32⟩
  | 34 => ⟨S4096x64x1, .i32⟩
  | 35 => ⟨S4096x64x1, .i1⟩
  | 36 => ⟨S_, .i32⟩
  | 37 => ⟨S4096x64x1, .i32⟩
  | 38 => ⟨S4096x64x1, .i32⟩
  | 39 => ⟨S4096x64x1, .i32⟩
  | 40 => ⟨S4096x64x1x1, .i32⟩
  | 41 => ⟨S1, .i32⟩
  | 42 => ⟨S_, .i32⟩
  | 43 => ⟨S4096x64x1x1, .i32⟩
  | 44 => ⟨S4096x64x1x1, .i1⟩
  | 45 => ⟨S1x1x1x1, .i32⟩
  | 46 => ⟨S4096x64x1x1, .i32⟩
  | 47 => ⟨S4096x64x1x1, .i1⟩
  | 48 => ⟨S4096x64x1x1, .i1⟩
  | 49 => ⟨S_, .i1⟩
  | 50 => ⟨S4096x64x1, .i1⟩
  | 51 => ⟨S4096x64x1, .f32⟩
  | 52 => ⟨S_, .f32⟩
  | 53 => ⟨S4096x64x1, .f32⟩
  | 54 => ⟨S4096x64x1, .f32⟩
  | 55 => ⟨S4096x64, .f32⟩
  | 56 => ⟨S_, .i32⟩
  | 57 => ⟨S4096x64x1, .i32⟩
  | 58 => ⟨S4096x64x1, .i1⟩
  | 59 => ⟨S_, .i32⟩
  | 60 => ⟨S4096x64x1, .i32⟩
  | 61 => ⟨S4096x64x1, .i32⟩
  | 62 => ⟨S4096x64x1, .i32⟩
  | 63 => ⟨S4096x64x1x1, .i32⟩
  | 64 => ⟨S1, .i32⟩
  | 65 => ⟨S_, .i32⟩
  | 66 => ⟨S4096x64x1x1, .i32⟩
  | 67 => ⟨S4096x64x1x1, .i1⟩
  | 68 => ⟨S1x1x1x1, .i32⟩
  | 69 => ⟨S4096x64x1x1, .i32⟩
  | 70 => ⟨S4096x64x1x1, .i1⟩
  | 71 => ⟨S4096x64x1x1, .i1⟩
  | 72 => ⟨S_, .i1⟩
  | 73 => ⟨S4096x64x1, .i1⟩
  | 74 => ⟨S4096x64x1, .f32⟩
  | 75 => ⟨S_, .f32⟩
  | 76 => ⟨S4096x64x1, .f32⟩
  | 77 => ⟨S4096x64x1, .f32⟩
  | 78 => ⟨S4096x64, .f32⟩
  | 79 => ⟨S4096x64x32, .f32⟩
  | 80 => ⟨S_, .i32⟩
  | 81 => ⟨S4096x64x1, .i32⟩
  | 82 => ⟨S4096x64x1, .i1⟩
  | 83 => ⟨S_, .i32⟩
  | 84 => ⟨S4096x64x1, .i32⟩
  | 85 => ⟨S4096x64x1, .i32⟩
  | 86 => ⟨S4096x64x1, .i32⟩
  | 87 => ⟨S4096x64x1x1, .i32⟩
  | 88 => ⟨S1, .i32⟩
  | 89 => ⟨S_, .i32⟩
  | 90 => ⟨S4096x64x1x1, .i32⟩
  | 91 => ⟨S4096x64x1x1, .i1⟩
  | 92 => ⟨S1x1x1x1, .i32⟩
  | 93 => ⟨S4096x64x1x1, .i32⟩
  | 94 => ⟨S4096x64x1x1, .i1⟩
  | 95 => ⟨S4096x64x1x1, .i1⟩
  | 96 => ⟨S_, .i1⟩
  | 97 => ⟨S4096x64x1, .i1⟩
  | 98 => ⟨S4096x64x1, .f32⟩
  | 99 => ⟨S_, .f32⟩
  | 100 => ⟨S4096x64x1, .f32⟩
  | 101 => ⟨S4096x64x1, .f32⟩
  | 102 => ⟨S4096x64, .f32⟩
  | 103 => ⟨S_, .i32⟩
  | 104 => ⟨S4096x64x1, .i32⟩
  | 105 => ⟨S4096x64x1, .i1⟩
  | 106 => ⟨S_, .i32⟩
  | 107 => ⟨S4096x64x1, .i32⟩
  | 108 => ⟨S4096x64x1, .i32⟩
  | 109 => ⟨S4096x64x1, .i32⟩
  | 110 => ⟨S4096x64x1x1, .i32⟩
  | 111 => ⟨S1, .i32⟩
  | 112 => ⟨S_, .i32⟩
  | 113 => ⟨S4096x64x1x1, .i32⟩
  | 114 => ⟨S4096x64x1x1, .i1⟩
  | 115 => ⟨S1x1x1x1, .i32⟩
  | 116 => ⟨S4096x64x1x1, .i32⟩
  | 117 => ⟨S4096x64x1x1, .i1⟩
  | 118 => ⟨S4096x64x1x1, .i1⟩
  | 119 => ⟨S_, .i1⟩
  | 120 => ⟨S4096x64x1, .i1⟩
  | 121 => ⟨S4096x64x1, .f32⟩
  | 122 => ⟨S_, .f32⟩
  | 123 => ⟨S4096x64x1, .f32⟩
  | 124 => ⟨S4096x64x1, .f32⟩
  | 125 => ⟨S4096x64, .f32⟩
  | 126 => ⟨S4096x64x32, .f32⟩
  | 127 => ⟨S_, .i32⟩
  | _ => ⟨S4096x64, .f32⟩

abbrev hbmTy0_2 (i : Nat) : BufTy := match i % 128 with
  | 0 => ⟨S4096x64x1, .i32⟩
  | 1 => ⟨S4096x64x1, .i1⟩
  | 2 => ⟨S_, .i32⟩
  | 3 => ⟨S4096x64x1, .i32⟩
  | 4 => ⟨S4096x64x1, .i32⟩
  | 5 => ⟨S4096x64x1, .i32⟩
  | 6 => ⟨S4096x64x1x1, .i32⟩
  | 7 => ⟨S1, .i32⟩
  | 8 => ⟨S_, .i32⟩
  | 9 => ⟨S4096x64x1x1, .i32⟩
  | 10 => ⟨S4096x64x1x1, .i1⟩
  | 11 => ⟨S1x1x1x1, .i32⟩
  | 12 => ⟨S4096x64x1x1, .i32⟩
  | 13 => ⟨S4096x64x1x1, .i1⟩
  | 14 => ⟨S4096x64x1x1, .i1⟩
  | 15 => ⟨S_, .i1⟩
  | 16 => ⟨S4096x64x1, .i1⟩
  | 17 => ⟨S4096x64x1, .f32⟩
  | 18 => ⟨S_, .f32⟩
  | 19 => ⟨S4096x64x1, .f32⟩
  | 20 => ⟨S4096x64x1, .f32⟩
  | 21 => ⟨S4096x64, .f32⟩
  | 22 => ⟨S_, .i32⟩
  | 23 => ⟨S4096x64x1, .i32⟩
  | 24 => ⟨S4096x64x1, .i1⟩
  | 25 => ⟨S_, .i32⟩
  | 26 => ⟨S4096x64x1, .i32⟩
  | 27 => ⟨S4096x64x1, .i32⟩
  | 28 => ⟨S4096x64x1, .i32⟩
  | 29 => ⟨S4096x64x1x1, .i32⟩
  | 30 => ⟨S1, .i32⟩
  | 31 => ⟨S_, .i32⟩
  | 32 => ⟨S4096x64x1x1, .i32⟩
  | 33 => ⟨S4096x64x1x1, .i1⟩
  | 34 => ⟨S1x1x1x1, .i32⟩
  | 35 => ⟨S4096x64x1x1, .i32⟩
  | 36 => ⟨S4096x64x1x1, .i1⟩
  | 37 => ⟨S4096x64x1x1, .i1⟩
  | 38 => ⟨S_, .i1⟩
  | 39 => ⟨S4096x64x1, .i1⟩
  | 40 => ⟨S4096x64x1, .f32⟩
  | 41 => ⟨S_, .f32⟩
  | 42 => ⟨S4096x64x1, .f32⟩
  | 43 => ⟨S4096x64x1, .f32⟩
  | 44 => ⟨S4096x64, .f32⟩
  | 45 => ⟨S4096x64, .f32⟩
  | 46 => ⟨S4096x64, .f32⟩
  | 47 => ⟨S_, .f32⟩
  | 48 => ⟨S4096x64, .f32⟩
  | 49 => ⟨S4096x64, .f32⟩
  | 50 => ⟨S4096x64, .f32⟩
  | 51 => ⟨S4096x64, .f32⟩
  | 52 => ⟨S4096x64, .f32⟩
  | 53 => ⟨S4096x64, .f32⟩
  | 54 => ⟨S4096x64, .f32⟩
  | 55 => ⟨S4096x64, .f32⟩
  | 56 => ⟨S4096x64, .f32⟩
  | 57 => ⟨S_, .f32⟩
  | 58 => ⟨S4096x64, .f32⟩
  | 59 => ⟨S4096x64, .f32⟩
  | 60 => ⟨S4096x64, .f32⟩
  | 61 => ⟨S4096x64, .f32⟩
  | 62 => ⟨S4096x64, .f32⟩
  | 63 => ⟨S4096x64, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S_, .f32⟩
  | 70 => ⟨S4096x64, .f32⟩
  | 71 => ⟨S4096x64, .f32⟩
  | 72 => ⟨S4096x64, .f32⟩
  | 73 => ⟨S4096x64, .f32⟩
  | 74 => ⟨S_, .f32⟩
  | 75 => ⟨S4096x64, .f32⟩
  | 76 => ⟨S4096x64, .f32⟩
  | 77 => ⟨S4096x64, .f32⟩
  | 78 => ⟨S4096x64, .f32⟩
  | 79 => ⟨S4096x64, .f32⟩
  | 80 => ⟨S4096x64, .f32⟩
  | 81 => ⟨S4096x64, .f32⟩
  | 82 => ⟨S4096x64, .f32⟩
  | 83 => ⟨S_, .f32⟩
  | 84 => ⟨S4096x64, .f32⟩
  | 85 => ⟨S4096x64, .f32⟩
  | 86 => ⟨S4096x64, .f32⟩
  | 87 => ⟨S4096x64, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_v1 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_v2 : Ref sig .tc := ⟨.hbm, 47, rfl⟩
abbrev main_cst : Ref sig .tc := ⟨.hbm, 48, rfl⟩
abbrev main_v3 : Ref sig .tc := ⟨.hbm, 49, rfl⟩
abbrev main_v4 : Ref sig .tc := ⟨.hbm, 50, rfl⟩
abbrev main_cst_0 : Ref sig .tc := ⟨.hbm, 51, rfl⟩
abbrev main_v5 : Ref sig .tc := ⟨.hbm, 52, rfl⟩
abbrev main_v6 : Ref sig .tc := ⟨.hbm, 53, rfl⟩
abbrev main_cst_1 : Ref sig .tc := ⟨.hbm, 54, rfl⟩
abbrev main_v7 : Ref sig .tc := ⟨.hbm, 55, rfl⟩
abbrev main_v8 : Ref sig .tc := ⟨.hbm, 56, rfl⟩
abbrev main_call3_call0_cst : Ref sig .tc := ⟨.hbm, 57, rfl⟩
abbrev main_call3_call0_v0 : Ref sig .tc := ⟨.hbm, 58, rfl⟩
abbrev main_v9 : Ref sig .tc := ⟨.hbm, 59, rfl⟩
abbrev main_cst_2 : Ref sig .tc := ⟨.hbm, 60, rfl⟩
abbrev main_call4_v0 : Ref sig .tc := ⟨.hbm, 61, rfl⟩
abbrev main_v10 : Ref sig .tc := ⟨.hbm, 62, rfl⟩
abbrev main_v11 : Ref sig .tc := ⟨.hbm, 63, rfl⟩
abbrev main_cst_3 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_call5_call0_cst : Ref sig .tc := ⟨.hbm, 72, rfl⟩
abbrev main_call5_call0_v0 : Ref sig .tc := ⟨.hbm, 73, rfl⟩
abbrev main_v19 : Ref sig .tc := ⟨.hbm, 74, rfl⟩
abbrev main_cst_4 : Ref sig .tc := ⟨.hbm, 75, rfl⟩
abbrev main_call6_v0 : Ref sig .tc := ⟨.hbm, 76, rfl⟩
abbrev main_v20 : Ref sig .tc := ⟨.hbm, 77, rfl⟩
abbrev main_v21 : Ref sig .tc := ⟨.hbm, 78, rfl⟩
abbrev main_cst_5 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_6 : Ref sig .tc := ⟨.hbm, 87, rfl⟩
abbrev main_v29 : Ref sig .tc := ⟨.hbm, 88, rfl⟩
abbrev main_cst_7 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c : Ref sig .tc := ⟨.hbm, 132, rfl⟩
abbrev main_v72 : Ref sig .tc := ⟨.hbm, 133, rfl⟩
abbrev main_c_8 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_call12_c : Ref sig .tc := ⟨.hbm, 138, rfl⟩
abbrev main_call12_v0 : Ref sig .tc := ⟨.hbm, 139, rfl⟩
abbrev main_call12_v1 : Ref sig .tc := ⟨.hbm, 140, rfl⟩
abbrev main_call12_c_0 : Ref sig .tc := ⟨.hbm, 141, rfl⟩
abbrev main_call12_v2 : Ref sig .tc := ⟨.hbm, 142, rfl⟩
abbrev main_call12_v3 : Ref sig .tc := ⟨.hbm, 143, rfl⟩
abbrev main_call12_v4 : Ref sig .tc := ⟨.hbm, 144, rfl⟩
abbrev main_call12_v5 : Ref sig .tc := ⟨.hbm, 145, rfl⟩
abbrev main_call12_c_1 : Ref sig .tc := ⟨.hbm, 146, rfl⟩
abbrev main_call12_c_2 : Ref sig .tc := ⟨.hbm, 147, rfl⟩
abbrev main_call12_v6 : Ref sig .tc := ⟨.hbm, 148, rfl⟩
abbrev main_call12_v7 : Ref sig .tc := ⟨.hbm, 149, rfl⟩
abbrev main_call12_v8 : Ref sig .tc := ⟨.hbm, 150, rfl⟩
abbrev main_call12_v9 : Ref sig .tc := ⟨.hbm, 151, rfl⟩
abbrev main_call12_v10 : Ref sig .tc := ⟨.hbm, 152, rfl⟩
abbrev main_call12_v11 : Ref sig .tc := ⟨.hbm, 153, rfl⟩
abbrev main_call12_c_3 : Ref sig .tc := ⟨.hbm, 154, rfl⟩
abbrev main_call12_v12 : Ref sig .tc := ⟨.hbm, 155, rfl⟩
abbrev main_call12_v13 : Ref sig .tc := ⟨.hbm, 156, rfl⟩
abbrev main_call12_cst : Ref sig .tc := ⟨.hbm, 157, rfl⟩
abbrev main_call12_v14 : Ref sig .tc := ⟨.hbm, 158, rfl⟩
abbrev main_v76 : Ref sig .tc := ⟨.hbm, 159, rfl⟩
abbrev main_v77 : Ref sig .tc := ⟨.hbm, 160, rfl⟩
abbrev main_call13_c : Ref sig .tc := ⟨.hbm, 161, rfl⟩
abbrev main_call13_v0 : Ref sig .tc := ⟨.hbm, 162, rfl⟩
abbrev main_call13_v1 : Ref sig .tc := ⟨.hbm, 163, rfl⟩
abbrev main_call13_c_0 : Ref sig .tc := ⟨.hbm, 164, rfl⟩
abbrev main_call13_v2 : Ref sig .tc := ⟨.hbm, 165, rfl⟩
abbrev main_call13_v3 : Ref sig .tc := ⟨.hbm, 166, rfl⟩
abbrev main_call13_v4 : Ref sig .tc := ⟨.hbm, 167, rfl⟩
abbrev main_call13_v5 : Ref sig .tc := ⟨.hbm, 168, rfl⟩
abbrev main_call13_c_1 : Ref sig .tc := ⟨.hbm, 169, rfl⟩
abbrev main_call13_c_2 : Ref sig .tc := ⟨.hbm, 170, rfl⟩
abbrev main_call13_v6 : Ref sig .tc := ⟨.hbm, 171, rfl⟩
abbrev main_call13_v7 : Ref sig .tc := ⟨.hbm, 172, rfl⟩
abbrev main_call13_v8 : Ref sig .tc := ⟨.hbm, 173, rfl⟩
abbrev main_call13_v9 : Ref sig .tc := ⟨.hbm, 174, rfl⟩
abbrev main_call13_v10 : Ref sig .tc := ⟨.hbm, 175, rfl⟩
abbrev main_call13_v11 : Ref sig .tc := ⟨.hbm, 176, rfl⟩
abbrev main_call13_c_3 : Ref sig .tc := ⟨.hbm, 177, rfl⟩
abbrev main_call13_v12 : Ref sig .tc := ⟨.hbm, 178, rfl⟩
abbrev main_call13_v13 : Ref sig .tc := ⟨.hbm, 179, rfl⟩
abbrev main_call13_cst : Ref sig .tc := ⟨.hbm, 180, rfl⟩
abbrev main_call13_v14 : Ref sig .tc := ⟨.hbm, 181, rfl⟩
abbrev main_v78 : Ref sig .tc := ⟨.hbm, 182, rfl⟩
abbrev main_v79 : Ref sig .tc := ⟨.hbm, 183, rfl⟩
abbrev main_call14_c : Ref sig .tc := ⟨.hbm, 184, rfl⟩
abbrev main_call14_v0 : Ref sig .tc := ⟨.hbm, 185, rfl⟩
abbrev main_call14_v1 : Ref sig .tc := ⟨.hbm, 186, rfl⟩
abbrev main_call14_c_0 : Ref sig .tc := ⟨.hbm, 187, rfl⟩
abbrev main_call14_v2 : Ref sig .tc := ⟨.hbm, 188, rfl⟩
abbrev main_call14_v3 : Ref sig .tc := ⟨.hbm, 189, rfl⟩
abbrev main_call14_v4 : Ref sig .tc := ⟨.hbm, 190, rfl⟩
abbrev main_call14_v5 : Ref sig .tc := ⟨.hbm, 191, rfl⟩
abbrev main_call14_c_1 : Ref sig .tc := ⟨.hbm, 192, rfl⟩
abbrev main_call14_c_2 : Ref sig .tc := ⟨.hbm, 193, rfl⟩
abbrev main_call14_v6 : Ref sig .tc := ⟨.hbm, 194, rfl⟩
abbrev main_call14_v7 : Ref sig .tc := ⟨.hbm, 195, rfl⟩
abbrev main_call14_v8 : Ref sig .tc := ⟨.hbm, 196, rfl⟩
abbrev main_call14_v9 : Ref sig .tc := ⟨.hbm, 197, rfl⟩
abbrev main_call14_v10 : Ref sig .tc := ⟨.hbm, 198, rfl⟩
abbrev main_call14_v11 : Ref sig .tc := ⟨.hbm, 199, rfl⟩
abbrev main_call14_c_3 : Ref sig .tc := ⟨.hbm, 200, rfl⟩
abbrev main_call14_v12 : Ref sig .tc := ⟨.hbm, 201, rfl⟩
abbrev main_call14_v13 : Ref sig .tc := ⟨.hbm, 202, rfl⟩
abbrev main_call14_cst : Ref sig .tc := ⟨.hbm, 203, rfl⟩
abbrev main_call14_v14 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_call15_c : Ref sig .tc := ⟨.hbm, 208, rfl⟩
abbrev main_call15_v0 : Ref sig .tc := ⟨.hbm, 209, rfl⟩
abbrev main_call15_v1 : Ref sig .tc := ⟨.hbm, 210, rfl⟩
abbrev main_call15_c_0 : Ref sig .tc := ⟨.hbm, 211, rfl⟩
abbrev main_call15_v2 : Ref sig .tc := ⟨.hbm, 212, rfl⟩
abbrev main_call15_v3 : Ref sig .tc := ⟨.hbm, 213, rfl⟩
abbrev main_call15_v4 : Ref sig .tc := ⟨.hbm, 214, rfl⟩
abbrev main_call15_v5 : Ref sig .tc := ⟨.hbm, 215, rfl⟩
abbrev main_call15_c_1 : Ref sig .tc := ⟨.hbm, 216, rfl⟩
abbrev main_call15_c_2 : Ref sig .tc := ⟨.hbm, 217, rfl⟩
abbrev main_call15_v6 : Ref sig .tc := ⟨.hbm, 218, rfl⟩
abbrev main_call15_v7 : Ref sig .tc := ⟨.hbm, 219, rfl⟩
abbrev main_call15_v8 : Ref sig .tc := ⟨.hbm, 220, rfl⟩
abbrev main_call15_v9 : Ref sig .tc := ⟨.hbm, 221, rfl⟩
abbrev main_call15_v10 : Ref sig .tc := ⟨.hbm, 222, rfl⟩
abbrev main_call15_v11 : Ref sig .tc := ⟨.hbm, 223, rfl⟩
abbrev main_call15_c_3 : Ref sig .tc := ⟨.hbm, 224, rfl⟩
abbrev main_call15_v12 : Ref sig .tc := ⟨.hbm, 225, rfl⟩
abbrev main_call15_v13 : Ref sig .tc := ⟨.hbm, 226, rfl⟩
abbrev main_call15_cst : Ref sig .tc := ⟨.hbm, 227, rfl⟩
abbrev main_call15_v14 : Ref sig .tc := ⟨.hbm, 228, rfl⟩
abbrev main_v83 : Ref sig .tc := ⟨.hbm, 229, rfl⟩
abbrev main_v84 : Ref sig .tc := ⟨.hbm, 230, rfl⟩
abbrev main_call16_c : Ref sig .tc := ⟨.hbm, 231, rfl⟩
abbrev main_call16_v0 : Ref sig .tc := ⟨.hbm, 232, rfl⟩
abbrev main_call16_v1 : Ref sig .tc := ⟨.hbm, 233, rfl⟩
abbrev main_call16_c_0 : Ref sig .tc := ⟨.hbm, 234, rfl⟩
abbrev main_call16_v2 : Ref sig .tc := ⟨.hbm, 235, rfl⟩
abbrev main_call16_v3 : Ref sig .tc := ⟨.hbm, 236, rfl⟩
abbrev main_call16_v4 : Ref sig .tc := ⟨.hbm, 237, rfl⟩
abbrev main_call16_v5 : Ref sig .tc := ⟨.hbm, 238, rfl⟩
abbrev main_call16_c_1 : Ref sig .tc := ⟨.hbm, 239, rfl⟩
abbrev main_call16_c_2 : Ref sig .tc := ⟨.hbm, 240, rfl⟩
abbrev main_call16_v6 : Ref sig .tc := ⟨.hbm, 241, rfl⟩
abbrev main_call16_v7 : Ref sig .tc := ⟨.hbm, 242, rfl⟩
abbrev main_call16_v8 : Ref sig .tc := ⟨.hbm, 243, rfl⟩
abbrev main_call16_v9 : Ref sig .tc := ⟨.hbm, 244, rfl⟩
abbrev main_call16_v10 : Ref sig .tc := ⟨.hbm, 245, rfl⟩
abbrev main_call16_v11 : Ref sig .tc := ⟨.hbm, 246, rfl⟩
abbrev main_call16_c_3 : Ref sig .tc := ⟨.hbm, 247, rfl⟩
abbrev main_call16_v12 : Ref sig .tc := ⟨.hbm, 248, rfl⟩
abbrev main_call16_v13 : Ref sig .tc := ⟨.hbm, 249, rfl⟩
abbrev main_call16_cst : Ref sig .tc := ⟨.hbm, 250, rfl⟩
abbrev main_call16_v14 : Ref sig .tc := ⟨.hbm, 251, rfl⟩
abbrev main_v85 : Ref sig .tc := ⟨.hbm, 252, rfl⟩
abbrev main_v86 : Ref sig .tc := ⟨.hbm, 253, rfl⟩
abbrev main_v87 : Ref sig .tc := ⟨.hbm, 254, rfl⟩
abbrev main_call17_c : Ref sig .tc := ⟨.hbm, 255, rfl⟩
abbrev main_call17_v0 : Ref sig .tc := ⟨.hbm, 256, rfl⟩
abbrev main_call17_v1 : Ref sig .tc := ⟨.hbm, 257, rfl⟩
abbrev main_call17_c_0 : Ref sig .tc := ⟨.hbm, 258, rfl⟩
abbrev main_call17_v2 : Ref sig .tc := ⟨.hbm, 259, rfl⟩
abbrev main_call17_v3 : Ref sig .tc := ⟨.hbm, 260, rfl⟩
abbrev main_call17_v4 : Ref sig .tc := ⟨.hbm, 261, rfl⟩
abbrev main_call17_v5 : Ref sig .tc := ⟨.hbm, 262, rfl⟩
abbrev main_call17_c_1 : Ref sig .tc := ⟨.hbm, 263, rfl⟩
abbrev main_call17_c_2 : Ref sig .tc := ⟨.hbm, 264, rfl⟩
abbrev main_call17_v6 : Ref sig .tc := ⟨.hbm, 265, rfl⟩
abbrev main_call17_v7 : Ref sig .tc := ⟨.hbm, 266, rfl⟩
abbrev main_call17_v8 : Ref sig .tc := ⟨.hbm, 267, rfl⟩
abbrev main_call17_v9 : Ref sig .tc := ⟨.hbm, 268, rfl⟩
abbrev main_call17_v10 : Ref sig .tc := ⟨.hbm, 269, rfl⟩
abbrev main_call17_v11 : Ref sig .tc := ⟨.hbm, 270, rfl⟩
abbrev main_call17_c_3 : Ref sig .tc := ⟨.hbm, 271, rfl⟩
abbrev main_call17_v12 : Ref sig .tc := ⟨.hbm, 272, rfl⟩
abbrev main_call17_v13 : Ref sig .tc := ⟨.hbm, 273, rfl⟩
abbrev main_call17_cst : Ref sig .tc := ⟨.hbm, 274, rfl⟩
abbrev main_call17_v14 : Ref sig .tc := ⟨.hbm, 275, rfl⟩
abbrev main_v88 : Ref sig .tc := ⟨.hbm, 276, rfl⟩
abbrev main_v89 : Ref sig .tc := ⟨.hbm, 277, rfl⟩
abbrev main_call18_c : Ref sig .tc := ⟨.hbm, 278, rfl⟩
abbrev main_call18_v0 : Ref sig .tc := ⟨.hbm, 279, rfl⟩
abbrev main_call18_v1 : Ref sig .tc := ⟨.hbm, 280, rfl⟩
abbrev main_call18_c_0 : Ref sig .tc := ⟨.hbm, 281, rfl⟩
abbrev main_call18_v2 : Ref sig .tc := ⟨.hbm, 282, rfl⟩
abbrev main_call18_v3 : Ref sig .tc := ⟨.hbm, 283, rfl⟩
abbrev main_call18_v4 : Ref sig .tc := ⟨.hbm, 284, rfl⟩
abbrev main_call18_v5 : Ref sig .tc := ⟨.hbm, 285, rfl⟩
abbrev main_call18_c_1 : Ref sig .tc := ⟨.hbm, 286, rfl⟩
abbrev main_call18_c_2 : Ref sig .tc := ⟨.hbm, 287, rfl⟩
abbrev main_call18_v6 : Ref sig .tc := ⟨.hbm, 288, rfl⟩
abbrev main_call18_v7 : Ref sig .tc := ⟨.hbm, 289, rfl⟩
abbrev main_call18_v8 : Ref sig .tc := ⟨.hbm, 290, rfl⟩
abbrev main_call18_v9 : Ref sig .tc := ⟨.hbm, 291, rfl⟩
abbrev main_call18_v10 : Ref sig .tc := ⟨.hbm, 292, rfl⟩
abbrev main_call18_v11 : Ref sig .tc := ⟨.hbm, 293, rfl⟩
abbrev main_call18_c_3 : Ref sig .tc := ⟨.hbm, 294, rfl⟩
abbrev main_call18_v12 : Ref sig .tc := ⟨.hbm, 295, rfl⟩
abbrev main_call18_v13 : Ref sig .tc := ⟨.hbm, 296, rfl⟩
abbrev main_call18_cst : Ref sig .tc := ⟨.hbm, 297, rfl⟩
abbrev main_call18_v14 : Ref sig .tc := ⟨.hbm, 298, rfl⟩
abbrev main_v90 : Ref sig .tc := ⟨.hbm, 299, rfl⟩
abbrev main_v91 : Ref sig .tc := ⟨.hbm, 300, rfl⟩
abbrev main_v92 : Ref sig .tc := ⟨.hbm, 301, rfl⟩
abbrev main_v93 : Ref sig .tc := ⟨.hbm, 302, rfl⟩
abbrev main_cst_9 : Ref sig .tc := ⟨.hbm, 303, rfl⟩
abbrev main_v94 : Ref sig .tc := ⟨.hbm, 304, rfl⟩
abbrev main_v95 : Ref sig .tc := ⟨.hbm, 305, rfl⟩
abbrev main_v96 : Ref sig .tc := ⟨.hbm, 306, rfl⟩
abbrev main_v97 : Ref sig .tc := ⟨.hbm, 307, rfl⟩
abbrev main_v98 : Ref sig .tc := ⟨.hbm, 308, rfl⟩
abbrev main_v99 : Ref sig .tc := ⟨.hbm, 309, rfl⟩
abbrev main_v100 : Ref sig .tc := ⟨.hbm, 310, rfl⟩
abbrev main_v101 : Ref sig .tc := ⟨.hbm, 311, rfl⟩
abbrev main_v102 : Ref sig .tc := ⟨.hbm, 312, rfl⟩
abbrev main_cst_10 : Ref sig .tc := ⟨.hbm, 313, rfl⟩
abbrev main_v103 : Ref sig .tc := ⟨.hbm, 314, rfl⟩
abbrev main_v104 : Ref sig .tc := ⟨.hbm, 315, rfl⟩
abbrev main_v105 : Ref sig .tc := ⟨.hbm, 316, rfl⟩
abbrev main_v106 : Ref sig .tc := ⟨.hbm, 317, rfl⟩
abbrev main_v107 : Ref sig .tc := ⟨.hbm, 318, rfl⟩
abbrev main_v108 : Ref sig .tc := ⟨.hbm, 319, rfl⟩
abbrev main_v109 : Ref sig .tc := ⟨.hbm, 320, rfl⟩
abbrev main_v110 : Ref sig .tc := ⟨.hbm, 321, rfl⟩
abbrev main_v111 : Ref sig .tc := ⟨.hbm, 322, rfl⟩
abbrev main_v112 : Ref sig .tc := ⟨.hbm, 323, rfl⟩
abbrev main_v113 : Ref sig .tc := ⟨.hbm, 324, rfl⟩
abbrev main_cst_11 : Ref sig .tc := ⟨.hbm, 325, rfl⟩
abbrev main_v114 : Ref sig .tc := ⟨.hbm, 326, rfl⟩
abbrev main_v115 : Ref sig .tc := ⟨.hbm, 327, rfl⟩
abbrev main_v116 : Ref sig .tc := ⟨.hbm, 328, rfl⟩
abbrev main_v117 : Ref sig .tc := ⟨.hbm, 329, rfl⟩
abbrev main_cst_12 : Ref sig .tc := ⟨.hbm, 330, rfl⟩
abbrev main_v118 : Ref sig .tc := ⟨.hbm, 331, rfl⟩
abbrev main_v119 : Ref sig .tc := ⟨.hbm, 332, rfl⟩
abbrev main_v120 : Ref sig .tc := ⟨.hbm, 333, rfl⟩
abbrev main_v121 : Ref sig .tc := ⟨.hbm, 334, rfl⟩
abbrev main_v122 : Ref sig .tc := ⟨.hbm, 335, rfl⟩
abbrev main_v123 : Ref sig .tc := ⟨.hbm, 336, rfl⟩
abbrev main_v124 : Ref sig .tc := ⟨.hbm, 337, rfl⟩
abbrev main_v125 : Ref sig .tc := ⟨.hbm, 338, rfl⟩
abbrev main_cst_13 : Ref sig .tc := ⟨.hbm, 339, rfl⟩
abbrev main_v126 : Ref sig .tc := ⟨.hbm, 340, rfl⟩
abbrev main_v127 : Ref sig .tc := ⟨.hbm, 341, rfl⟩
abbrev main_v128 : Ref sig .tc := ⟨.hbm, 342, rfl⟩
abbrev main_v129 : Ref sig .tc := ⟨.hbm, 343, rfl⟩

abbrev nD : Nat := 1
abbrev τ : Topo := Topo.v7x

variable {F : FTy → Type} [FloatOps F]
-- ==== Proof.Spline.lean ====
/-
  The spline at one entry, as a function of extended reals, and what the two programs need to know about it:
  the running sums the kernel forms by doubling, the halving sums it gathers with, and the bin a point lies in.
  No program is named here.
-/
module

public import Idealize.ShloMosaic.Lib.Pointwise

@[expose] public section

set_option maxRecDepth 16384

noncomputable section

open Idealize.ShloMosaic

namespace Cert.Spline

/-- The constant one half. -/
def half : EReal := Ideal.ofBits .f32 0x3F000000#32
/-- The constant two. -/
def two : EReal := Ideal.ofBits .f32 0x40000000#32
/-- The least width, height or derivative: the single-precision 0.001. -/
def least : EReal := Ideal.ofBits .f32 0x3A83126F#32

/-- The parameter a raw value stands for: `least` plus its softplus. -/
def pos (v : EReal) : EReal :=
  least + (max v 0 + Ideal.log1p (Ideal.exp (0 - FloatOps.absf (F := Ideal) (φ := .f32) v)))

/-- The bin sizes of a row of raw values, extended periodically to all naturals. -/
def size (u : Fin 32 → EReal) (n : ℕ) : EReal := pos (u (Fin.ofNat 32 n))

/-- Knot `n`: the sum of the first `n` bin sizes, less half of the sum of all. -/
def knot (f : ℕ → EReal) (n : ℕ) : EReal := (∑ k ∈ Finset.range n, f k) - half * ∑ k ∈ Finset.range 32, f k

/-- How many of the knots lie at or below `z`. -/
def count (f : ℕ → EReal) (z : EReal) : ℕ := ((Finset.range 33).filter fun n => knot f n ≤ z).card

/-- The denominator of the rational quadratic. -/
def denom (δ a b t : EReal) : EReal := δ + (a + b - two * δ) * (t * (1 - t))

/-- The rational quadratic inside a bin that starts at height `g`. -/
def inner (g h δ a b t : EReal) : EReal := g + Ideal.div (h * (δ * t * t + a * (t * (1 - t)))) (denom δ a b t)

/-- The logarithm of the derivative inside a bin. -/
def innerLog (δ a b t : EReal) : EReal :=
  Ideal.log (δ * δ * (b * t * t + two * δ * (t * (1 - t)) + a * (1 - t) * (1 - t))) - two * Ideal.log (denom δ a b t)

/-- The spline's value at one entry: linear tails outside the knots, the rational quadratic of the point's bin inside. -/
def value (x cx cy : EReal) (uw uh : Fin 32 → EReal) (ud : Fin 33 → EReal) : EReal :=
  let w := size uw; let h := size uh; let z := x - cx; let j := count w z - 1
  if z < knot w 0 then (knot h 0 + cy) - (knot w 0 - z) * pos (ud 0)
  else if knot w 32 ≤ z then (z - knot w 32) * pos (ud 32) + (knot h 32 + cy)
  else inner (knot h j + cy) (h j) (Ideal.div (h j) (w j)) (pos (ud (Fin.ofNat 33 j))) (pos (ud (Fin.ofNat 33 (j + 1))))
    (Ideal.div (z - knot w j) (w j))

/-- The logarithm of the spline's derivative at one entry. -/
def logSlope (x cx : EReal) (uw uh : Fin 32 → EReal) (ud : Fin 33 → EReal) : EReal :=
  let w := size uw; let h := size uh; let z := x - cx; let j := count w z - 1
  if z < knot w 0 then Ideal.log (pos (ud 0))
  else if knot w 32 ≤ z then Ideal.log (pos (ud 32))
  else innerLog (Ideal.div (h j) (w j)) (pos (ud (Fin.ofNat 33 j))) (pos (ud (Fin.ofNat 33 (j + 1))))
    (Ideal.div (z - knot w j) (w j))

/-! ## Signs -/

/-- An exponential is not negative. -/
theorem exp_nonneg (y : EReal) : 0 ≤ Ideal.exp y := by
  induction y with
  | bot => exact le_rfl
  | top => exact le_top
  | coe r => exact EReal.coe_nonneg.2 (Real.exp_pos r).le

/-- The logarithm of one plus something not negative is not negative. -/
theorem log1p_nonneg (y : EReal) (h : 0 ≤ y) : 0 ≤ Ideal.log1p y := by
  induction y with
  | bot => simp at h
  | top =>
    have e : (1 : EReal) + ⊤ = ⊤ := by rw [EReal.add_top_of_ne_bot]; exact EReal.coe_ne_bot 1
    unfold Ideal.log1p
    rw [e]
    exact le_top
  | coe r =>
    have hr : 0 ≤ r := EReal.coe_nonneg.1 h
    have e : (1 : EReal) + (r : EReal) = ((1 + r : ℝ) : EReal) := by rw [EReal.coe_add]; rfl
    unfold Ideal.log1p
    rw [e]
    show 0 ≤ (if 1 + r ≤ 0 then (⊥ : EReal) else (Real.log (1 + r) : EReal))
    rw [if_neg (by linarith)]
    exact EReal.coe_nonneg.2 (Real.log_nonneg (by linarith))

/-- The single-precision 0.001 is not negative. -/
theorem least_nonneg : 0 ≤ least := by
  have e : ∃ r : ℝ, 0 ≤ r ∧ least = ((r : ℝ) : EReal) := by
    refine ⟨_, ?_, by simp [least, Ideal.ofBits, Ideal.ieee, -EReal.coe_mul]; rfl⟩
    positivity
  obtain ⟨r, hr, e⟩ := e
  rw [e]
  exact EReal.coe_nonneg.2 hr

/-- Every parameter is not negative. -/
theorem pos_nonneg (v : EReal) : 0 ≤ pos v :=
  add_nonneg least_nonneg (add_nonneg (le_max_right _ _) (log1p_nonneg _ (exp_nonneg _)))

/-- The first knot is at or below the last. -/
theorem knot_le (f : ℕ → EReal) (h : ∀ n, 0 ≤ f n) : knot f 0 ≤ knot f 32 := by
  refine EReal.sub_le_sub ?_ le_rfl
  rw [Finset.sum_range_zero]
  exact Finset.sum_nonneg fun n _ => h n

/-! ## Running sums by doubling -/

/-- One round of a running sum: every entry takes the one `s` before it, where there is one. -/
def shift (s : ℕ) (f : ℕ → EReal) (n : ℕ) : EReal := f n + if n < s then 0 else f (n - s)

/-- The sum of the last `s` entries up to `n`. -/
def last (f : ℕ → EReal) (s n : ℕ) : EReal := ∑ t ∈ Finset.range s, if t ≤ n then f (n - t) else 0

/-- A round by `s` doubles the stretch that is summed. -/
theorem shift_last (f : ℕ → EReal) (s n : ℕ) : shift s (last f s) n = last f (s + s) n := by
  unfold shift last
  rw [Finset.sum_range_add]
  congr 1
  split_ifs with h
  · exact (Finset.sum_eq_zero fun t _ => if_neg (by omega)).symm
  · refine Finset.sum_congr rfl fun t _ => ?_
    by_cases ht : t ≤ n - s
    · rw [if_pos ht, if_pos (by omega), Nat.sub_add_eq]
    · rw [if_neg ht, if_neg (by omega)]

/-- A stretch at least as long as the prefix is the prefix. -/
theorem last_eq (f : ℕ → EReal) (s n : ℕ) (h : n < s) : last f s n = ∑ k ∈ Finset.range (n + 1), f k := by
  unfold last
  obtain ⟨e, rfl⟩ : ∃ e, s = (n + 1) + e := ⟨s - (n + 1), by omega⟩
  rw [Finset.sum_range_add, Finset.sum_eq_zero (s := Finset.range e) fun t _ => if_neg (by omega), add_zero,
    ← Finset.sum_range_reflect f]
  refine Finset.sum_congr rfl fun t ht => ?_
  rw [if_pos (by have := Finset.mem_range.1 ht; omega)]
  congr 1

/-- Five rounds, by 1, 2, 4, 8 and 16. -/
def rounds (f : ℕ → EReal) : ℕ → EReal := shift 16 (shift 8 (shift 4 (shift 2 (shift 1 f))))

/-- The five rounds are the running sum of 32 entries. -/
theorem rounds_eq (f : ℕ → EReal) (n : ℕ) (h : n < 32) : rounds f n = ∑ k ∈ Finset.range (n + 1), f k := by
  have h0 : f = last f 1 := by funext n; simp [last]
  have h1 : shift 1 f = last f 2 := by
    conv_lhs => rw [h0]
    funext n; exact shift_last f 1 n
  have h2 : shift 2 (last f 2) = last f 4 := funext (shift_last f 2)
  have h3 : shift 4 (last f 4) = last f 8 := funext (shift_last f 4)
  have h4 : shift 8 (last f 8) = last f 16 := funext (shift_last f 8)
  have h5 : shift 16 (last f 16) = last f 32 := funext (shift_last f 16)
  unfold rounds
  rw [h1, h2, h3, h4, h5, last_eq f 32 n h]

/-! ## Halving sums -/

/-- 32 terms added by halves, as the kernel brackets them. -/
def halves (f : Fin 32 → EReal) : EReal :=
  f 0 + f 16 + (f 8 + f 24) + (f 4 + f 20 + (f 12 + f 28)) + (f 2 + f 18 + (f 10 + f 26) + (f 6 + f 22 + (f 14 + f 30)))
    + (f 1 + f 17 + (f 9 + f 25) + (f 5 + f 21 + (f 13 + f 29)) + (f 3 + f 19 + (f 11 + f 27) + (f 7 + f 23 + (f 15 + f 31))))

/-- The halving sum is the sum. -/
theorem halves_eq (f : Fin 32 → EReal) : halves f = ∑ k, f k := by
  have key : ∀ g : ℕ → EReal,
      g 0 + g 16 + (g 8 + g 24) + (g 4 + g 20 + (g 12 + g 28)) + (g 2 + g 18 + (g 10 + g 26) + (g 6 + g 22 + (g 14 + g 30)))
        + (g 1 + g 17 + (g 9 + g 25) + (g 5 + g 21 + (g 13 + g 29)) + (g 3 + g 19 + (g 11 + g 27) + (g 7 + g 23 + (g 15 + g 31))))
        = ∑ n ∈ Finset.range 32, g n := by
    intro g
    simp only [Finset.sum_range_succ, Finset.sum_range_zero, zero_add]
    ac_rfl
  refine (key fun n => f (Fin.ofNat 32 n)).trans ?_
  rw [Finset.sum_range]
  exact Finset.sum_congr rfl fun k _ => congrArg f (Fin.ext (Nat.mod_eq_of_lt k.isLt))

/-- 33 terms: the halving sum of the first 32, and the last. -/
theorem halves_last (f : Fin 33 → EReal) : halves (fun k => f k.castSucc) + f 32 = ∑ k, f k := by
  rw [halves_eq]
  exact (Fin.sum_univ_castSucc f).symm

/-- A sum that keeps one entry is that entry. -/
theorem sum_pick {n : ℕ} (f : Fin n → EReal) (c : Fin n → BitVec 1) (j : Fin n) (h : ∀ k, c k = BitVec.ofBool (decide (k = j))) :
    (∑ k, Scalar.select (c k) (f k) 0) = f j := by
  rw [Finset.sum_eq_single j]
  · rw [h]; simp [Scalar.select]
  · intro k _ hk; rw [h]; simp [Scalar.select, hk]
  · intro hj; exact absurd (Finset.mem_univ j) hj

/-! ## The bin -/

/-- Between the first and the last knot, at least one knot and at most 32 lie at or below the point. -/
theorem count_bounds (f : ℕ → EReal) (z : EReal) (h0 : ¬ z < knot f 0) (h1 : ¬ knot f 32 ≤ z) :
    1 ≤ count f z ∧ count f z ≤ 32 := by
  constructor
  · exact Finset.card_pos.2 ⟨0, Finset.mem_filter.2 ⟨by simp, not_lt.1 h0⟩⟩
  · have hs : ((Finset.range 33).filter fun n => knot f n ≤ z) ⊆ Finset.range 32 := by
      intro n hn
      obtain ⟨hr, hk⟩ := Finset.mem_filter.1 hn
      have : n ≠ 32 := fun e => h1 (e ▸ hk)
      simp only [Finset.mem_range] at hr ⊢
      omega
    exact (Finset.card_le_card hs).trans (Finset.card_range 32).le

/-- The count as a sum of indicators over the 33 knots. -/
theorem count_eq (f : ℕ → EReal) (z : EReal) : count f z = ∑ n : Fin 33, if knot f n.val ≤ z then 1 else 0 := by
  unfold count
  rw [Finset.card_filter, Finset.sum_range]

/-! ## Shifting by a real center -/

/-- Comparing below a shifted knot. -/
theorem lt_shift (x e : EReal) (c : ℝ) : x < e + (c : EReal) ↔ x - (c : EReal) < e := by
  rw [EReal.sub_lt_iff (Or.inl (EReal.coe_ne_bot c)) (Or.inl (EReal.coe_ne_top c))]

/-- Comparing above a shifted knot. -/
theorem shift_le (x e : EReal) (c : ℝ) : e + (c : EReal) ≤ x ↔ e ≤ x - (c : EReal) := by
  rw [← not_lt, ← not_lt, lt_shift]

/-- The distance from a point to a shifted knot above it. -/
theorem shift_sub (x e : EReal) (c : ℝ) : (e + (c : EReal)) - x = e - (x - (c : EReal)) := by
  induction e with
  | bot => simp
  | top =>
    induction x with
    | bot => simp
    | top => simp
    | coe r => simp [← EReal.coe_sub]
  | coe q =>
    induction x with
    | bot => simp [← EReal.coe_add]
    | top => simp [← EReal.coe_add]
    | coe r => rw [← EReal.coe_add, ← EReal.coe_sub, ← EReal.coe_sub, ← EReal.coe_sub]; congr 1; ring

/-- The distance from a shifted knot to a point above it. -/
theorem sub_shift (x e : EReal) (c : ℝ) : x - (e + (c : EReal)) = (x - (c : EReal)) - e := by
  induction e with
  | bot =>
    induction x with
    | bot => simp
    | top => simp
    | coe r => simp [← EReal.coe_sub]
  | top => simp
  | coe q =>
    induction x with
    | bot => simp
    | top => simp [← EReal.coe_add]
    | coe r => rw [← EReal.coe_add, ← EReal.coe_sub, ← EReal.coe_sub, ← EReal.coe_sub]; congr 1; ring

/-- Half of a number: dividing by two is multiplying by one half. -/
theorem div_two (x : EReal) : Ideal.div x two = half * x := by
  have h2 : two = ((2 : ℝ) : EReal) := by
    simp [two, Ideal.ofBits, Ideal.ieee, -EReal.coe_mul]; norm_num
  have hh : half = ((1 / 2 : ℝ) : EReal) := by
    simp [half, Ideal.ofBits, Ideal.ieee, -EReal.coe_mul]; norm_num
  rw [h2, hh, Ideal.div_coe (by norm_num), mul_comm]

end Cert.Spline
-- ==== Proof.HostOps.lean ====
/-
  Three operations of array programs read at an entry: a running sum along the last axis, a gather along the last
  axis, and a count of marked entries. No program is named here.
-/
module

public import proofs.«01_k».proof.Proof.Spline
public import Idealize.ShloMosaic.Lib.Routing.Ops
public import Idealize.ShloMosaic.Lib.Pointwise

@[expose] public section

set_option maxRecDepth 16384

noncomputable section

open Idealize.ShloMosaic

namespace Cert.HostOps
open Cert.Spline

/-! ## The running sum -/

/-- A fold that adds is the start plus the sum of the terms. -/
theorem foldl_add {ι : Type} (g : ι → EReal) (l : List ι) (r : EReal) :
    l.foldl (fun r n => r + g n) r = r + (l.map g).sum := by
  induction l generalizing r with
  | nil => simp
  | cons n l ih => rw [List.foldl_cons, ih, List.map_cons, List.sum_cons, add_assoc]

/-- A window along the last axis alone has as many positions as it is long. -/
theorem numel_last (N : ℕ) : (⟨3, ![1, 1, N]⟩ : Shape).numel = N := by
  show ∏ a : Fin 3, (![1, 1, N] : Fin 3 → ℕ) a = N
  rw [Fin.prod_univ_three]
  show 1 * 1 * N = N
  simp

/-- Position `n` of such a window is the entry `n` along the last axis. -/
theorem symm_last {N : ℕ} (n : Fin (⟨3, ![1, 1, N]⟩ : Shape).numel) :
    (⟨3, ![1, 1, N]⟩ : Shape).rowMajor.symm n = ix3 (0 : Fin 1) (0 : Fin 1) (n.cast (numel_last N)) :=
  ((⟨3, ![1, 1, N]⟩ : Shape).rowMajor.symm_apply_eq).2 (Fin.ext (by
    rw [Shape.rowMajor_val_three]
    simp))

/-- A window sum as long as the last axis, padded low by one less, is the running sum along that axis. -/
theorem cumsum_last {A B N M : ℕ} (hN : M + 1 = N) (x : (⟨3, ![A, B, N]⟩ : Shape).Idx → EReal) (f : ℕ → EReal)
    (a : Fin A) (b : Fin B) (hx : ∀ k : Fin N, x (ix3 a b k) = f k.val)
    (h : (⟨3, ![A, B, N]⟩ : Shape).ReduceWindows (![1, 1, N] : Fin 3 → ℕ) ![1, 1, 1] ![0, 0, M] ![0, 0, 0] ⟨3, ![A, B, N]⟩)
    (k : Fin N) :
    Ideal.hostReduceWindowAdd ![1, 1, N] ![1, 1, 1] ![0, 0, M] ![0, 0, 0] h x 0 (ix3 a b k)
      = ∑ i ∈ Finset.range (k.val + 1), f i := by
  subst hN
  have hk := k.isLt
  rw [← last_eq f (M + 1) k.val hk, last, ← Finset.sum_range_reflect, Finset.sum_range]
  unfold Ideal.hostReduceWindowAdd Host.reduceWindow
  refine Eq.trans (b := (List.finRange (⟨3, ![1, 1, M + 1]⟩ : Shape).numel).foldl
    (fun r n => r + if M ≤ k.val + n.val then f (k.val + n.val - M) else 0) 0) ?_ ?_
  · refine congrArg (fun g => List.foldl g (0 : EReal) _) (funext fun r => funext fun n => ?_)
    have h0 : ((⟨3, ![1, 1, M + 1]⟩ : Shape).rowMajor.symm n 0).val = 0 := by rw [symm_last]; rfl
    have h1 : ((⟨3, ![1, 1, M + 1]⟩ : Shape).rowMajor.symm n 1).val = 0 := by rw [symm_last]; rfl
    have h2 : ((⟨3, ![1, 1, M + 1]⟩ : Shape).rowMajor.symm n 2).val = n.val := by rw [symm_last]; rfl
    have hn : n.val < M + 1 := (n.cast (numel_last _)).isLt
    refine congrArg (r + ·) ?_
    dsimp only
    split
    · next hin =>
      have hi := hin 2
      change M ≤ k.val * 1 + ((⟨3, ![1, 1, M + 1]⟩ : Shape).rowMajor.symm n 2).val
        ∧ k.val * 1 + ((⟨3, ![1, 1, M + 1]⟩ : Shape).rowMajor.symm n 2).val - M < M + 1 at hi
      rw [h2] at hi
      rw [if_pos (by omega)]
      refine (congrArg x (funext fun c => Fin.ext ?_)).trans (hx ⟨k.val + n.val - M, by omega⟩)
      match c with
      | ⟨0, _⟩ =>
        show a.val * 1 + ((⟨3, ![1, 1, M + 1]⟩ : Shape).rowMajor.symm n 0).val - 0 = a.val
        rw [h0]; omega
      | ⟨1, _⟩ =>
        show b.val * 1 + ((⟨3, ![1, 1, M + 1]⟩ : Shape).rowMajor.symm n 1).val - 0 = b.val
        rw [h1]; omega
      | ⟨2, _⟩ =>
        show k.val * 1 + ((⟨3, ![1, 1, M + 1]⟩ : Shape).rowMajor.symm n 2).val - M = k.val + n.val - M
        rw [h2]; omega
    · next hin =>
      rw [if_neg fun hle => hin fun c => by
        match c with
        | ⟨0, _⟩ =>
          show 0 ≤ a.val * 1 + ((⟨3, ![1, 1, M + 1]⟩ : Shape).rowMajor.symm n 0).val
            ∧ a.val * 1 + ((⟨3, ![1, 1, M + 1]⟩ : Shape).rowMajor.symm n 0).val - 0 < A
          rw [h0]; have := a.isLt; omega
        | ⟨1, _⟩ =>
          show 0 ≤ b.val * 1 + ((⟨3, ![1, 1, M + 1]⟩ : Shape).rowMajor.symm n 1).val
            ∧ b.val * 1 + ((⟨3, ![1, 1, M + 1]⟩ : Shape).rowMajor.symm n 1).val - 0 < B
          rw [h1]; have := b.isLt; omega
        | ⟨2, _⟩ =>
          show M ≤ k.val * 1 + ((⟨3, ![1, 1, M + 1]⟩ : Shape).rowMajor.symm n 2).val
            ∧ k.val * 1 + ((⟨3, ![1, 1, M + 1]⟩ : Shape).rowMajor.symm n 2).val - M < M + 1
          rw [h2]; omega]
  · rw [foldl_add, zero_add, ← Fin.sum_univ_def]
    refine Fintype.sum_equiv (finCongr (numel_last (M + 1))) _ _ fun n => ?_
    have hn : n.val < M + 1 := (n.cast (numel_last _)).isLt
    show (if M ≤ k.val + n.val then f (k.val + n.val - M) else 0)
      = if M + 1 - 1 - n.val ≤ k.val then f (k.val - (M + 1 - 1 - n.val)) else 0
    by_cases hc : M ≤ k.val + n.val
    · rw [if_pos hc, if_pos (by omega)]
      congr 1
      omega
    · rw [if_neg hc, if_neg (by omega)]

/-! ## The gather along the last axis -/

/-- The dimension numbers of a gather along the last of three axes, the first two carried along. -/
abbrev lastDims (A B N : ℕ)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Such a gather reads, at an entry, the operand at the entry's own index word. -/
theorem gather_last {α : Type} {A B N w : ℕ} (hN : 0 < N)
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ w) (a : Fin A) (b : Fin B) :
    Host.gather (lastDims A B N wf) x idx (ix3 a b (0 : Fin 1))
      = x (ix3 a b ⟨min (idx (ix4 a b (0 : Fin 1) (0 : Fin 1))).toInt.toNat (N - 1), by omega⟩) := by
  unfold Host.gather
  refine congrArg x (funext fun c => Fin.ext ?_)
  show (lastDims A B N wf).start (ix3 a b (0 : Fin 1)) idx c + (lastDims A B N wf).batchCoord (ix3 a b (0 : Fin 1)) c
      + (lastDims A B N wf).offCoord (ix3 a b (0 : Fin 1)) c = _
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims A B N wf).startIndexMap from List.mem_singleton.mpr rfl)]
    have hsi : (lastDims A B N wf).siIdx (ix3 a b (0 : Fin 1)) ⟨List.idxOf (2 : Fin 3) (lastDims A B N wf).startIndexMap,
        List.idxOf_lt_length_iff.2 (List.mem_singleton.mpr rfl)⟩ = ix4 a b (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

/-! ## Index words -/

/-- Adding indicators as words gives the count as a word. -/
theorem fold_count {n : ℕ} (p : Fin n → Prop) [DecidablePred p] :
    Finset.univ.fold IntOp.addi (0#32) (fun k => BitVec.setWidth 32 (BitVec.ofBool (decide (p k))))
      = BitVec.ofNat 32 (∑ k, if p k then (1 : ℕ) else 0) := by
  have key : ∀ s : Finset (Fin n), s.fold IntOp.addi (0#32) (fun k => BitVec.setWidth 32 (BitVec.ofBool (decide (p k))))
      = BitVec.ofNat 32 (∑ k ∈ s, if p k then (1 : ℕ) else 0) := by
    intro s
    induction s using Finset.induction_on with
    | empty => simp
    | insert k s hk ih =>
      rw [Finset.fold_insert hk, ih, Finset.sum_insert hk, BitVec.ofNat_add]
      refine congrArg (· + BitVec.ofNat 32 _) ?_
      by_cases h : p k <;> simp [h]
  exact key _

/-- A conjunction of marks that all hold holds. -/
theorem fold_and {n : ℕ} (f : Fin n → BitVec 1) (h : ∀ k, f k = 1#1) : Finset.univ.fold IntOp.andi (1#1) f = 1#1 := by
  have key : ∀ s : Finset (Fin n), s.fold IntOp.andi (1#1) f = 1#1 := by
    intro s
    induction s using Finset.induction_on with
    | empty => rfl
    | insert k s hk ih =>
      rw [Finset.fold_insert hk, ih, h]
      rfl
  exact key _

/-- An index word from 0 to 31 is not negative, so it is not wrapped. -/
theorem word_wrap (j : ℕ) (hj : j < 32) (y : BitVec 32) :
    Scalar.select (IntOp.cmpi .slt (BitVec.ofNat 32 j) 0#32) y (BitVec.ofNat 32 j) = BitVec.ofNat 32 j := by
  have h : ∀ i : Fin 32, IntOp.cmpi .slt (BitVec.ofNat 32 i.val) 0#32 = 0#1 := by decide
  rw [h ⟨j, hj⟩]
  rfl

/-- An index word from 0 to 31 is in bounds of 33 entries, and of 32. -/
theorem word_bounds (j : ℕ) (hj : j < 32) :
    IntOp.cmpi .sge (BitVec.ofNat 32 j) 0#32 = 1#1 ∧ IntOp.cmpi .sle (BitVec.ofNat 32 j) 32#32 = 1#1
      ∧ IntOp.cmpi .sle (BitVec.ofNat 32 j) 31#32 = 1#1 := by
  have h : ∀ i : Fin 32, IntOp.cmpi .sge (BitVec.ofNat 32 i.val) 0#32 = 1#1 ∧ IntOp.cmpi .sle (BitVec.ofNat 32 i.val) 32#32 = 1#1
      ∧ IntOp.cmpi .sle (BitVec.ofNat 32 i.val) 31#32 = 1#1 := by decide
  exact h ⟨j, hj⟩

/-- An index word from 0 to 31 read back as a number. -/
theorem word_nat (j : ℕ) (hj : j < 32) : (BitVec.ofNat 32 j).toInt.toNat = j := by
  have h : ∀ i : Fin 32, (BitVec.ofNat 32 i.val).toInt.toNat = i.val := by decide
  exact h ⟨j, hj⟩

end Cert.HostOps
-- ==== Proof.Entry.lean ====
/-
  The reference read at one entry: every stage of the array program as the scalar it computes there, down to the
  spline's value and the logarithm of its slope.
-/
module

public import proofs.«01_k».proof.Proof.Gen.ReferenceIdeal.Read
public import proofs.«01_k».proof.Proof.HostOps

@[expose] public section

set_option maxRecDepth 16384

noncomputable section

open Idealize.ShloMosaic Idealize.ShloMosaic.TcCoe Idealize.SL.Sem

namespace Cert.ReferenceIdeal.Entry
open Cert.ReferenceIdeal Cert.ReferenceIdeal.Gen Cert.ReferenceIdeal.Read Cert.Spline Cert.HostOps

variable (x0 : FVec Ideal S4096x64 .f32) (x1 x2 : FVec Ideal S4096x64x32 .f32) (x3 : FVec Ideal S4096x64x33 .f32)
  (x4 x5 : FVec Ideal S4096x64 .f32)

/-- The bin sizes of entry `(b, d)`, from the array of raw values. -/
def sizes (x : FVec Ideal S4096x64x32 .f32) (b : Fin 4096) (d : Fin 64) : ℕ → EReal := size fun k => x (ix3 b d k)

/-- The bin sizes at an index of the array are the row's. -/
theorem sizes_val (x : FVec Ideal S4096x64x32 .f32) (b : Fin 4096) (d : Fin 64) (k : Fin 32) :
    sizes x b d k.val = pos (x (ix3 b d k)) :=
  congrArg (fun i => pos (x (ix3 b d i))) (Fin.ext (Nat.mod_eq_of_lt k.isLt))

/-- Softplus as the reference forms it, plus the least parameter. -/
theorem pos_eq (v : EReal) :
    least + (if v ≠ v then v else max v 0 + Ideal.log1p (Ideal.exp (-FloatOps.absf (F := Ideal) (φ := .f32) v))) = pos v := by
  rw [if_neg (fun h => h rfl)]
  unfold pos
  rw [zero_sub]

/-! ## Parameters -/

/-- The widths. -/
theorem widths_apply (b : Fin 4096) (d : Fin 64) (k : Fin 32) :
    val_main_v4 (F := Ideal) x1 (ix3 b d k) = pos (x1 (ix3 b d k)) := by
  rw [← pos_eq]
  pointwise [val_main_v4, val_main_v3, val_main_cst, val_main_v0, val_main_call0_v11, val_main_call0_v10, val_main_call0_v9,
    val_main_call0_v8, val_main_call0_v7, val_main_call0_v6, val_main_call0_v5, val_main_call0_v4, val_main_call0_v3,
    val_main_call0_v2, val_main_call0_v1, val_main_call0_v0, val_main_call0_cst]
  rfl

/-- The heights. -/
theorem heights_apply (b : Fin 4096) (d : Fin 64) (k : Fin 32) :
    val_main_v6 (F := Ideal) x2 (ix3 b d k) = pos (x2 (ix3 b d k)) :=
  widths_apply x2 b d k

/-- The derivatives at the knots. -/
theorem slopes_apply (b : Fin 4096) (d : Fin 64) (k : Fin 33) :
    val_main_v8 (F := Ideal) x3 (ix3 b d k) = pos (x3 (ix3 b d k)) := by
  rw [← pos_eq]
  pointwise [val_main_v8, val_main_v7, val_main_cst_1, val_main_v2, val_main_call2_v11, val_main_call2_v10, val_main_call2_v9,
    val_main_call2_v8, val_main_call2_v7, val_main_call2_v6, val_main_call2_v5, val_main_call2_v4, val_main_call2_v3,
    val_main_call2_v2, val_main_call2_v1, val_main_call2_v0, val_main_call2_cst]
  rfl

/-! ## Knots -/

/-- The running sum of the widths. -/
theorem running_apply (b : Fin 4096) (d : Fin 64) (k : Fin 32) :
    val_main_v9 (F := Ideal) x1 (ix3 b d k) = ∑ i ∈ Finset.range (k.val + 1), sizes x1 b d i := by
  have z : (val_main_call3_call0_v0 (F := Ideal)) (Shape.Idx.first h_S_) = (0 : EReal) := by
    pointwise [val_main_call3_call0_v0, val_main_call3_call0_cst]
  refine Eq.trans ?_ (cumsum_last (M := 31) rfl (val_main_v4 (F := Ideal) x1) (sizes x1 b d) b d
    (fun k => (widths_apply x1 b d k).trans (sizes_val x1 b d k).symm)
    reduceWindows_S4096x64x32_S4096x64x32_w1s1p0_0_w1s1p0_0_w32s1p31_0 k)
  unfold val_main_v9 Host.reduceWindowAdd
  rw [z]
  rfl

/-- The knots, moved by the centre. -/
theorem knots_apply (b : Fin 4096) (d : Fin 64) (k : Fin 33) :
    val_main_v18 (F := Ideal) x1 x4 (ix3 b d k) = knot (sizes x1 b d) k.val + x4 (ix2 b d) := by
  pointwise [val_main_v18, val_main_v17, val_main_v16, val_main_v15, val_main_v14, val_main_v13, val_main_v12, val_main_v11,
    val_main_cst_3, val_main_v10, val_main_cst_2, running_apply, val_main_call4_v0]
  refine congrArg (· + x4 (ix2 b d)) (congrArg₂ (· - ·) ?_ (div_two _))
  have hk := k.isLt
  by_cases h : 1 ≤ k.val
  · rw [dif_pos ⟨h, by omega⟩, Nat.sub_add_cancel h]
  · rw [dif_neg (fun hh => h hh.1), show k.val = 0 by omega, Finset.sum_range_zero]
    exact Ideal.ofBits_zero .f32

/-- The heights' knots, moved by the centre. -/
theorem knotsY_apply (b : Fin 4096) (d : Fin 64) (k : Fin 33) :
    val_main_v28 (F := Ideal) x2 x5 (ix3 b d k) = knot (sizes x2 b d) k.val + x5 (ix2 b d) :=
  knots_apply x2 x5 b d k

/-! ## The bin -/

/-- Inside the knots, the point the reference searches the knots for is the input. -/
theorem point_apply (b : Fin 4096) (d : Fin 64) (c : ℝ) (hc : x4 (ix2 b d) = (c : EReal))
    (h0 : ¬ x0 (ix2 b d) - x4 (ix2 b d) < knot (sizes x1 b d) 0) (h1 : ¬ knot (sizes x1 b d) 32 ≤ x0 (ix2 b d) - x4 (ix2 b d)) :
    val_main_v67 (F := Ideal) x0 x1 x4 (ix2 b d) = x0 (ix2 b d) := by
  have e0 := h0
  have e1 := h1
  rw [hc, ← lt_shift] at e0
  rw [hc, ← shift_le] at e1
  pointwise [val_main_v67, val_main_v66, val_main_v65, val_main_v33, val_main_v36, val_main_v31, val_main_v32,
    val_main_v34, val_main_v35, knots_apply, hc]
  rw [decide_eq_false e0, decide_eq_false e1]
  rfl

/-- Inside the knots, the word that numbers the point's bin is the count of knots at or below it, less one. -/
theorem bin_apply (b : Fin 4096) (d : Fin 64) (c : ℝ) (hc : x4 (ix2 b d) = (c : EReal))
    (h0 : ¬ x0 (ix2 b d) - x4 (ix2 b d) < knot (sizes x1 b d) 0) (h1 : ¬ knot (sizes x1 b d) 32 ≤ x0 (ix2 b d) - x4 (ix2 b d)) :
    val_main_v74 (F := Ideal) x0 x1 x4 (ix2 b d)
      = BitVec.ofNat 32 (count (sizes x1 b d) (x0 (ix2 b d) - x4 (ix2 b d)) - 1) := by
  obtain ⟨m, hm⟩ : ∃ m, count (sizes x1 b d) (x0 (ix2 b d) - x4 (ix2 b d)) = m + 1 :=
    ⟨_, (Nat.sub_add_cancel (count_bounds _ _ h0 h1).1).symm⟩
  have point := point_apply x0 x1 x4 b d c hc h0 h1
  have tally : val_main_v72 (F := Ideal) x0 x1 x4 (ix2 b d) = BitVec.ofNat 32 (m + 1) := by
    rw [← hm, count_eq]
    pointwise [val_main_v72, val_main_v71, val_main_v70, val_main_v69, val_main_v68, val_main_c, knots_apply, point, hc, shift_le]
    exact fold_count fun k : Fin 33 => knot (sizes x1 b d) k.val ≤ x0 (ix2 b d) - (c : EReal)
  pointwise [val_main_v74, val_main_v73, val_main_c_8, tally]
  rw [hm, BitVec.ofNat_add]
  exact add_sub_cancel_right _ _

/-- The word that numbers the bin, gathered over 33 entries. -/
theorem word33 (b : Fin 4096) (d : Fin 64) (j : ℕ) (hj : j < 32) (h : val_main_v74 (F := Ideal) x0 x1 x4 (ix2 b d) = BitVec.ofNat 32 j) :
    val_main_call12_v5 (F := Ideal) x0 x1 x4 (ix4 b d (0 : Fin 1) (0 : Fin 1)) = BitVec.ofNat 32 j := by
  pointwise [val_main_call12_v5, val_main_call12_v4, val_main_call12_v3, val_main_call12_v2, val_main_call12_v1,
    val_main_call12_v0, val_main_call12_c, val_main_call12_c_0, val_main_v75, h]
  exact word_wrap j hj _

/-- The word that numbers the bin, gathered over 32 entries. -/
theorem word32 (b : Fin 4096) (d : Fin 64) (j : ℕ) (hj : j < 32) (h : val_main_v74 (F := Ideal) x0 x1 x4 (ix2 b d) = BitVec.ofNat 32 j) :
    val_main_call13_v5 (F := Ideal) x0 x1 x4 (ix4 b d (0 : Fin 1) (0 : Fin 1)) = BitVec.ofNat 32 j := by
  pointwise [val_main_call13_v5, val_main_call13_v4, val_main_call13_v3, val_main_call13_v2, val_main_call13_v1,
    val_main_call13_v0, val_main_call13_c, val_main_call13_c_0, val_main_v75, h]
  exact word_wrap j hj _

/-- The bin's word is in bounds of 33 entries. -/
theorem mask33 (b : Fin 4096) (d : Fin 64) (j : ℕ) (hj : j < 32) (h : val_main_v74 (F := Ideal) x0 x1 x4 (ix2 b d) = BitVec.ofNat 32 j) :
    val_main_call12_v12 (F := Ideal) x0 x1 x4 (ix3 b d (0 : Fin 1)) = 1#1 := by
  pointwise [val_main_call12_v12, val_main_call12_v11, val_main_call12_v10, val_main_call12_v9, val_main_call12_v8,
    val_main_call12_v7, val_main_call12_v6, val_main_call12_c_1, val_main_call12_c_2, val_main_call12_c_3, word33 x0 x1 x4 b d j hj h]
  refine fold_and _ fun k => ?_
  rw [show k = 0 from Subsingleton.elim _ _, word33 x0 x1 x4 b d j hj h, (word_bounds j hj).1, (word_bounds j hj).2.1]
  rfl

/-- The bin's word is in bounds of 32 entries. -/
theorem mask32 (b : Fin 4096) (d : Fin 64) (j : ℕ) (hj : j < 32) (h : val_main_v74 (F := Ideal) x0 x1 x4 (ix2 b d) = BitVec.ofNat 32 j) :
    val_main_call13_v12 (F := Ideal) x0 x1 x4 (ix3 b d (0 : Fin 1)) = 1#1 := by
  pointwise [val_main_call13_v12, val_main_call13_v11, val_main_call13_v10, val_main_call13_v9, val_main_call13_v8,
    val_main_call13_v7, val_main_call13_v6, val_main_call13_c_1, val_main_call13_c_2, val_main_call13_c_3, word32 x0 x1 x4 b d j hj h]
  refine fold_and _ fun k => ?_
  rw [show k = 0 from Subsingleton.elim _ _, word32 x0 x1 x4 b d j hj h, (word_bounds j hj).1, (word_bounds j hj).2.2]
  rfl

/-- A gather over 33 entries by an in-bounds word reads the entry it numbers. -/
theorem pick33 (x : FVec Ideal S4096x64x33 .f32) (idx : IVec S4096x64x1x1 32) (m : IVec S4096x64x1 1) (y : FVec Ideal S4096x64x1 .f32)
    (b : Fin 4096) (d : Fin 64) (j : ℕ) (hj : j < 32) (hi : idx (ix4 b d (0 : Fin 1) (0 : Fin 1)) = BitVec.ofNat 32 j)
    (hm : m (ix3 b d (0 : Fin 1)) = 1#1) :
    select m (Host.gather gather_S4096x64x33_S4096x64x1x1_S4096x64x1_n_2_01_01_2_3_111 x idx) y (ix3 b d (0 : Fin 1))
      = x (ix3 b d ⟨j, by omega⟩) := by
  show Scalar.select (m (ix3 b d (0 : Fin 1))) (Host.gather _ x idx (ix3 b d (0 : Fin 1))) _ = _
  rw [hm]
  refine (gather_last (A := 4096) (B := 64) (N := 33) (by omega) _ x idx b d).trans (congrArg x (congrArg (ix3 b d) (Fin.ext ?_)))
  show min (idx (ix4 b d (0 : Fin 1) (0 : Fin 1))).toInt.toNat 32 = j
  rw [hi, word_nat j hj]
  omega

/-- A gather over 32 entries by an in-bounds word reads the entry it numbers. -/
theorem pick32 (x : FVec Ideal S4096x64x32 .f32) (idx : IVec S4096x64x1x1 32) (m : IVec S4096x64x1 1) (y : FVec Ideal S4096x64x1 .f32)
    (b : Fin 4096) (d : Fin 64) (j : ℕ) (hj : j < 32) (hi : idx (ix4 b d (0 : Fin 1) (0 : Fin 1)) = BitVec.ofNat 32 j)
    (hm : m (ix3 b d (0 : Fin 1)) = 1#1) :
    select m (Host.gather gather_S4096x64x32_S4096x64x1x1_S4096x64x1_n_2_01_01_2_3_111 x idx) y (ix3 b d (0 : Fin 1))
      = x (ix3 b d ⟨j, hj⟩) := by
  show Scalar.select (m (ix3 b d (0 : Fin 1))) (Host.gather _ x idx (ix3 b d (0 : Fin 1))) _ = _
  rw [hm]
  refine (gather_last (A := 4096) (B := 64) (N := 32) (by omega) _ x idx b d).trans (congrArg x (congrArg (ix3 b d) (Fin.ext ?_)))
  show min (idx (ix4 b d (0 : Fin 1) (0 : Fin 1))).toInt.toNat 31 = j
  rw [hi, word_nat j hj]
  omega

/-! ## What the bin's gathers read -/

/-- The mean slopes of the bins. -/
theorem ratio_apply (b : Fin 4096) (d : Fin 64) (k : Fin 32) :
    val_main_v82 (F := Ideal) x1 x2 (ix3 b d k) = Ideal.div (sizes x2 b d k.val) (sizes x1 b d k.val) := by
  rw [sizes_val, sizes_val, ← widths_apply, ← heights_apply]
  rfl

/-- The slopes at the right ends of the bins. -/
theorem next_apply (b : Fin 4096) (d : Fin 64) (k : Fin 32) :
    val_main_v87 (F := Ideal) x3 (ix3 b d k) = pos (x3 (ix3 b d (Fin.ofNat 33 (k.val + 1)))) := by
  have e : Fin.ofNat 33 (k.val + 1) = ⟨k.val + 1, by omega⟩ := Fin.ext (Nat.mod_eq_of_lt (by omega))
  rw [e, ← slopes_apply]
  pointwise [val_main_v87]
  exact congrArg (fun i => val_main_v8 (F := Ideal) x3 (ix3 b d i)) (Fin.ext (Nat.add_comm _ _))

/-- The bin's left knot. -/
theorem read12 (b : Fin 4096) (d : Fin 64) (j : ℕ) (hj : j < 32) (h : val_main_v74 (F := Ideal) x0 x1 x4 (ix2 b d) = BitVec.ofNat 32 j) :
    val_main_v77 (F := Ideal) x0 x1 x4 (ix2 b d) = knot (sizes x1 b d) j + x4 (ix2 b d) := by
  refine (?_ : _ = val_main_v76 (F := Ideal) x0 x1 x4 (ix3 b d (0 : Fin 1))).trans
    ((pick33 _ (val_main_call12_v5 (F := Ideal) x0 x1 x4) (val_main_call12_v12 (F := Ideal) x0 x1 x4) _ b d j hj
      (word33 x0 x1 x4 b d j hj h) (mask33 x0 x1 x4 b d j hj h)).trans
    (knots_apply x1 x4 b d _))
  pointwise [val_main_v77]

/-- The bin's width. -/
theorem read13 (b : Fin 4096) (d : Fin 64) (j : ℕ) (hj : j < 32) (h : val_main_v74 (F := Ideal) x0 x1 x4 (ix2 b d) = BitVec.ofNat 32 j) :
    val_main_v79 (F := Ideal) x0 x1 x4 (ix2 b d) = sizes x1 b d j := by
  refine (?_ : _ = val_main_v78 (F := Ideal) x0 x1 x4 (ix3 b d (0 : Fin 1))).trans
    ((pick32 _ (val_main_call13_v5 (F := Ideal) x0 x1 x4) (val_main_call13_v12 (F := Ideal) x0 x1 x4) _ b d j hj
      (word32 x0 x1 x4 b d j hj h) (mask32 x0 x1 x4 b d j hj h)).trans
    ((widths_apply x1 b d _).trans (sizes_val x1 b d ⟨j, hj⟩).symm))
  pointwise [val_main_v79]

/-- The height at the left knot. -/
theorem read14 (b : Fin 4096) (d : Fin 64) (j : ℕ) (hj : j < 32) (h : val_main_v74 (F := Ideal) x0 x1 x4 (ix2 b d) = BitVec.ofNat 32 j) :
    val_main_v81 (F := Ideal) x0 x1 x2 x4 x5 (ix2 b d) = knot (sizes x2 b d) j + x5 (ix2 b d) := by
  refine (?_ : _ = val_main_v80 (F := Ideal) x0 x1 x2 x4 x5 (ix3 b d (0 : Fin 1))).trans
    ((pick33 _ (val_main_call14_v5 (F := Ideal) x0 x1 x4) (val_main_call14_v12 (F := Ideal) x0 x1 x4) _ b d j hj
      (word33 x0 x1 x4 b d j hj h) (mask33 x0 x1 x4 b d j hj h)).trans
    (knotsY_apply x2 x5 b d _))
  pointwise [val_main_v81]

/-- The mean slope of the bin. -/
theorem read15 (b : Fin 4096) (d : Fin 64) (j : ℕ) (hj : j < 32) (h : val_main_v74 (F := Ideal) x0 x1 x4 (ix2 b d) = BitVec.ofNat 32 j) :
    val_main_v84 (F := Ideal) x0 x1 x2 x4 (ix2 b d) = Ideal.div (sizes x2 b d j) (sizes x1 b d j) := by
  refine (?_ : _ = val_main_v83 (F := Ideal) x0 x1 x2 x4 (ix3 b d (0 : Fin 1))).trans
    ((pick32 _ (val_main_call15_v5 (F := Ideal) x0 x1 x4) (val_main_call15_v12 (F := Ideal) x0 x1 x4) _ b d j hj
      (word32 x0 x1 x4 b d j hj h) (mask32 x0 x1 x4 b d j hj h)).trans
    (ratio_apply x1 x2 b d ⟨j, hj⟩))
  pointwise [val_main_v84]

/-- The slope at the left knot. -/
theorem read16 (b : Fin 4096) (d : Fin 64) (j : ℕ) (hj : j < 32) (h : val_main_v74 (F := Ideal) x0 x1 x4 (ix2 b d) = BitVec.ofNat 32 j) :
    val_main_v86 (F := Ideal) x0 x1 x3 x4 (ix2 b d) = pos (x3 (ix3 b d (Fin.ofNat 33 j))) := by
  refine (?_ : _ = val_main_v85 (F := Ideal) x0 x1 x3 x4 (ix3 b d (0 : Fin 1))).trans
    ((pick33 _ (val_main_call16_v5 (F := Ideal) x0 x1 x4) (val_main_call16_v12 (F := Ideal) x0 x1 x4) _ b d j hj
      (word33 x0 x1 x4 b d j hj h) (mask33 x0 x1 x4 b d j hj h)).trans
    ((slopes_apply x3 b d _).trans (congrArg (fun i => pos (x3 (ix3 b d i))) (Fin.ext (Nat.mod_eq_of_lt (by omega)).symm))))
  pointwise [val_main_v86]

/-- The slope at the right knot. -/
theorem read17 (b : Fin 4096) (d : Fin 64) (j : ℕ) (hj : j < 32) (h : val_main_v74 (F := Ideal) x0 x1 x4 (ix2 b d) = BitVec.ofNat 32 j) :
    val_main_v89 (F := Ideal) x0 x1 x3 x4 (ix2 b d) = pos (x3 (ix3 b d (Fin.ofNat 33 (j + 1)))) := by
  refine (?_ : _ = val_main_v88 (F := Ideal) x0 x1 x3 x4 (ix3 b d (0 : Fin 1))).trans
    ((pick32 _ (val_main_call17_v5 (F := Ideal) x0 x1 x4) (val_main_call17_v12 (F := Ideal) x0 x1 x4) _ b d j hj
      (word32 x0 x1 x4 b d j hj h) (mask32 x0 x1 x4 b d j hj h)).trans
    (next_apply x3 b d ⟨j, hj⟩))
  pointwise [val_main_v89]

/-- The height of the bin. -/
theorem read18 (b : Fin 4096) (d : Fin 64) (j : ℕ) (hj : j < 32) (h : val_main_v74 (F := Ideal) x0 x1 x4 (ix2 b d) = BitVec.ofNat 32 j) :
    val_main_v91 (F := Ideal) x0 x1 x2 x4 (ix2 b d) = sizes x2 b d j := by
  refine (?_ : _ = val_main_v90 (F := Ideal) x0 x1 x2 x4 (ix3 b d (0 : Fin 1))).trans
    ((pick32 _ (val_main_call18_v5 (F := Ideal) x0 x1 x4) (val_main_call18_v12 (F := Ideal) x0 x1 x4) _ b d j hj
      (word32 x0 x1 x4 b d j hj h) (mask32 x0 x1 x4 b d j hj h)).trans
    ((heights_apply x2 b d _).trans (sizes_val x2 b d ⟨j, hj⟩).symm))
  pointwise [val_main_v91]

/-! ## The three pieces -/

/-- The tail left of the knots. -/
theorem left_apply (b : Fin 4096) (d : Fin 64) :
    val_main_v45 (F := Ideal) x0 x1 x2 x3 x4 x5 (ix2 b d)
      = (knot (sizes x2 b d) 0 + x5 (ix2 b d))
        - ((knot (sizes x1 b d) 0 + x4 (ix2 b d)) - x0 (ix2 b d)) * pos (x3 (ix3 b d 0)) := by
  pointwise [val_main_v45, val_main_v44, val_main_v43, val_main_v42, val_main_v41, val_main_v40, val_main_v39, val_main_v38, val_main_v37, knots_apply, knotsY_apply, slopes_apply]

/-- The tail right of the knots. -/
theorem right_apply (b : Fin 4096) (d : Fin 64) :
    val_main_v55 (F := Ideal) x0 x1 x2 x3 x4 x5 (ix2 b d)
      = (x0 (ix2 b d) - (knot (sizes x1 b d) 32 + x4 (ix2 b d))) * pos (x3 (ix3 b d 32))
        + (knot (sizes x2 b d) 32 + x5 (ix2 b d)) := by
  pointwise [val_main_v55, val_main_v54, val_main_v53, val_main_v52, val_main_v51, val_main_v50, val_main_v49, val_main_v48, val_main_v47, knots_apply, knotsY_apply, slopes_apply]

/-- The rational quadratic, of what the bin's gathers read. -/
theorem inside_apply (b : Fin 4096) (d : Fin 64) :
    val_main_v109 (F := Ideal) x0 x1 x2 x3 x4 x5 (ix2 b d)
      = Spline.inner (val_main_v81 (F := Ideal) x0 x1 x2 x4 x5 (ix2 b d)) (val_main_v91 (F := Ideal) x0 x1 x2 x4 (ix2 b d))
        (val_main_v84 (F := Ideal) x0 x1 x2 x4 (ix2 b d)) (val_main_v86 (F := Ideal) x0 x1 x3 x4 (ix2 b d))
        (val_main_v89 (F := Ideal) x0 x1 x3 x4 (ix2 b d)) (val_main_v93 (F := Ideal) x0 x1 x4 (ix2 b d)) := by
  unfold Spline.inner denom
  rw [mul_assoc (val_main_v84 (F := Ideal) x0 x1 x2 x4 (ix2 b d))]
  pointwise [val_main_v109, val_main_v108, val_main_v107, val_main_v106, val_main_v105, val_main_v104, val_main_v103, val_main_v102, val_main_v101, val_main_v100, val_main_v99, val_main_v98, val_main_v97, val_main_v96, val_main_v95, val_main_v94, val_main_cst_9, val_main_cst_10]
  rfl

/-- The logarithm of the slope of the rational quadratic, of what the bin's gathers read. -/
theorem insideLog_apply (b : Fin 4096) (d : Fin 64) :
    val_main_v128 (F := Ideal) x0 x1 x2 x3 x4 (ix2 b d)
      = innerLog (val_main_v84 (F := Ideal) x0 x1 x2 x4 (ix2 b d)) (val_main_v86 (F := Ideal) x0 x1 x3 x4 (ix2 b d))
        (val_main_v89 (F := Ideal) x0 x1 x3 x4 (ix2 b d)) (val_main_v93 (F := Ideal) x0 x1 x4 (ix2 b d)) := by
  unfold innerLog denom
  rw [mul_assoc (val_main_v89 (F := Ideal) x0 x1 x3 x4 (ix2 b d)), mul_assoc (val_main_v86 (F := Ideal) x0 x1 x3 x4 (ix2 b d))]
  pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v107, val_main_v106, val_main_v105, val_main_v104, val_main_v103, val_main_v102, val_main_v101, val_main_v100, val_main_v99, val_main_v98, val_main_v97, val_main_v96, val_main_v95, val_main_v94, val_main_cst_9, val_main_cst_10, val_main_cst_11, val_main_cst_12, val_main_cst_13]
  rfl

/-! ## The results -/

/-- Choosing between three pieces by two conditions that cannot both hold, in either order. -/
theorem choose (p q : Prop) [Decidable p] [Decidable q] (h : ¬ (p ∧ q)) (l r m e : EReal) :
    Scalar.select (~~~IntOp.ori (BitVec.ofBool (decide p)) (BitVec.ofBool (decide q))) m (if q then r else if p then l else e)
      = if p then l else if q then r else m := by
  by_cases hp : p
  · have hq : ¬ q := fun hq => h ⟨hp, hq⟩
    rw [decide_eq_true hp, decide_eq_false hq, if_pos hp, if_neg hq, if_pos hp]
    rfl
  · by_cases hq : q
    · rw [decide_eq_false hp, decide_eq_true hq, if_pos hq, if_neg hp, if_pos hq]
      rfl
    · rw [decide_eq_false hp, decide_eq_false hq, if_neg hp, if_neg hq, if_neg hp, if_neg hq]
      rfl

/-- No point lies both left of the first knot and right of the last. -/
theorem apart (x : FVec Ideal S4096x64x32 .f32) (b : Fin 4096) (d : Fin 64) (z : EReal) :
    ¬ (z < knot (sizes x b d) 0 ∧ knot (sizes x b d) 32 ≤ z) :=
  fun h => absurd (lt_of_le_of_lt h.2 h.1) (not_lt.2 (knot_le _ fun _ => pos_nonneg _))

/-- Inside the knots, the place in the bin, from 0 at its left knot to 1 at its right. -/
theorem theta_apply (b : Fin 4096) (d : Fin 64) (c : ℝ) (hc : x4 (ix2 b d) = (c : EReal))
    (h0 : ¬ x0 (ix2 b d) - x4 (ix2 b d) < knot (sizes x1 b d) 0) (h1 : ¬ knot (sizes x1 b d) 32 ≤ x0 (ix2 b d) - x4 (ix2 b d))
    (j : ℕ) (hj : j < 32) (h : val_main_v74 (F := Ideal) x0 x1 x4 (ix2 b d) = BitVec.ofNat 32 j) :
    val_main_v93 (F := Ideal) x0 x1 x4 (ix2 b d)
      = Ideal.div (x0 (ix2 b d) - x4 (ix2 b d) - knot (sizes x1 b d) j) (sizes x1 b d j) := by
  rw [hc, ← sub_shift, ← hc, ← read12 x0 x1 x4 b d j hj h, ← read13 x0 x1 x4 b d j hj h]
  conv_rhs => rw [← point_apply x0 x1 x4 b d c hc h0 h1]
  pointwise [val_main_v93, val_main_v92]

/-- The first result is the spline's value, where the centre is a real number. -/
theorem value_apply (b : Fin 4096) (d : Fin 64) (c : ℝ) (hc : x4 (ix2 b d) = (c : EReal)) :
    val_main_v110 (F := Ideal) x0 x1 x2 x3 x4 x5 (ix2 b d)
      = value (x0 (ix2 b d)) (x4 (ix2 b d)) (x5 (ix2 b d)) (fun k => x1 (ix3 b d k)) (fun k => x2 (ix3 b d k))
        (fun k => x3 (ix3 b d k)) := by
  pointwise [val_main_v110, val_main_v66, val_main_v65, val_main_v56, val_main_v46, val_main_v36, val_main_v33, val_main_v31, val_main_v32, val_main_v34, val_main_v35, knots_apply, left_apply, right_apply]
  simp only [hc, lt_shift, shift_le, shift_sub, sub_shift]
  simp only [← hc]
  refine (choose _ _ (apart x1 b d _) _ _ _ _).trans ?_
  unfold value
  by_cases h0 : x0 (ix2 b d) - x4 (ix2 b d) < knot (sizes x1 b d) 0
  · exact (if_pos h0).trans (if_pos h0).symm
  refine (if_neg h0).trans (Eq.trans ?_ (if_neg h0).symm)
  by_cases h1 : knot (sizes x1 b d) 32 ≤ x0 (ix2 b d) - x4 (ix2 b d)
  · exact (if_pos h1).trans (if_pos h1).symm
  refine (if_neg h1).trans (Eq.trans ?_ (if_neg h1).symm)
  have hj : Spline.count (sizes x1 b d) (x0 (ix2 b d) - x4 (ix2 b d)) - 1 < 32 := by
    have := count_bounds _ _ h0 h1
    omega
  have hb := bin_apply x0 x1 x4 b d c hc h0 h1
  rw [inside_apply, theta_apply x0 x1 x4 b d c hc h0 h1 _ hj hb, read14 x0 x1 x2 x4 x5 b d _ hj hb, read15 x0 x1 x2 x4 b d _ hj hb,
    read16 x0 x1 x3 x4 b d _ hj hb, read17 x0 x1 x3 x4 b d _ hj hb, read18 x0 x1 x2 x4 b d _ hj hb]
  rfl

/-- The second result is the logarithm of the spline's slope, where the centre is a real number. -/
theorem slope_apply (b : Fin 4096) (d : Fin 64) (c : ℝ) (hc : x4 (ix2 b d) = (c : EReal)) :
    val_main_v129 (F := Ideal) x0 x1 x2 x3 x4 (ix2 b d)
      = logSlope (x0 (ix2 b d)) (x4 (ix2 b d)) (fun k => x1 (ix3 b d k)) (fun k => x2 (ix3 b d k)) (fun k => x3 (ix3 b d k)) := by
  pointwise [val_main_v129, val_main_v66, val_main_v65, val_main_v64, val_main_v60, val_main_v36, val_main_v33, val_main_v31, val_main_v32, val_main_v34, val_main_v35, val_main_v57, val_main_v58, val_main_v59, val_main_v61, val_main_v62, val_main_v63, knots_apply, slopes_apply]
  simp only [hc, lt_shift, shift_le]
  simp only [← hc]
  refine (choose _ _ (apart x1 b d _) _ _ _ _).trans ?_
  unfold logSlope
  by_cases h0 : x0 (ix2 b d) - x4 (ix2 b d) < knot (sizes x1 b d) 0
  · exact (if_pos h0).trans (if_pos h0).symm
  refine (if_neg h0).trans (Eq.trans ?_ (if_neg h0).symm)
  by_cases h1 : knot (sizes x1 b d) 32 ≤ x0 (ix2 b d) - x4 (ix2 b d)
  · exact (if_pos h1).trans (if_pos h1).symm
  refine (if_neg h1).trans (Eq.trans ?_ (if_neg h1).symm)
  have hj : Spline.count (sizes x1 b d) (x0 (ix2 b d) - x4 (ix2 b d)) - 1 < 32 := by
    have := count_bounds _ _ h0 h1
    omega
  have hb := bin_apply x0 x1 x4 b d c hc h0 h1
  rw [insideLog_apply, theta_apply x0 x1 x4 b d c hc h0 h1 _ hj hb, read15 x0 x1 x2 x4 b d _ hj hb,
    read16 x0 x1 x3 x4 b d _ hj hb, read17 x0 x1 x3 x4 b d _ hj hb]
  rfl

end Cert.ReferenceIdeal.Entry
-- ==== Proof.Tile.lean ====
/-
  What the kernel's body computes on a tile, read at one entry: each stage as a function of extended reals, and
  the two stored arrays as the spline's value and the logarithm of its slope.
-/
module

public import proofs.«01_k».proof.Proof.Gen.KernelIdeal.Skeleton
public import proofs.«01_k».proof.Proof.Spline

@[expose] public section

set_option maxRecDepth 16384

noncomputable section

open Idealize.ShloMosaic Idealize.ShloMosaic.TcCoe Idealize.SL.Sem

namespace Cert.KernelIdeal.Tile
open Cert.KernelIdeal Cert.KernelIdeal.Gen Cert.Spline

/-- The 32 raw values of dimension `d` in row `r` of a tile of flattened rows. -/
def row32 (x : FVec Ideal S512x2048 .f32) (r : Fin 512) (d : Fin 64) (k : Fin 32) : EReal :=
  x (ix2 r ⟨d.val * 32 + k.val, by omega⟩)

/-- The 33 raw values of dimension `d` in row `r` of a tile of flattened rows. -/
def row33 (x : FVec Ideal S512x2112 .f32) (r : Fin 512) (d : Fin 64) (k : Fin 33) : EReal :=
  x (ix2 r ⟨d.val * 33 + k.val, by omega⟩)

/-- A tile's transpose swaps the coordinates. -/
theorem pay3_apply (x : FVec Ideal S512x64 .f32) (d : Fin 64) (r : Fin 512) :
    k0_pay3 (F := Ideal) x (ix2 d r) = x (ix2 r d) := by
  pointwise [k0_pay3]

/-- The points, centered. -/
theorem pay4_apply (x c : FVec Ideal S512x64 .f32) (d : Fin 64) (r : Fin 512) :
    k0_pay4 (F := Ideal) x c (ix2 d r) = x (ix2 r d) - c (ix2 r d) := by
  pointwise [k0_pay4]

/-- The bin widths of a tile. -/
theorem pay5_apply (x : FVec Ideal S512x2048 .f32) (d : Fin 64) (k : Fin 32) (r : Fin 512) :
    k0_pay5 (F := Ideal) x (ix3 d k r) = size (row32 x r d) k.val := by
  have e : Fin.ofNat 32 k.val = k := Fin.ext (Nat.mod_eq_of_lt k.isLt)
  pointwise [k0_pay5, size, e]
  rfl

/-- The bin heights of a tile. -/
theorem pay6_apply (x : FVec Ideal S512x2048 .f32) (d : Fin 64) (k : Fin 32) (r : Fin 512) :
    k0_pay6 (F := Ideal) x (ix3 d k r) = size (row32 x r d) k.val := by
  have e : Fin.ofNat 32 k.val = k := Fin.ext (Nat.mod_eq_of_lt k.isLt)
  pointwise [k0_pay6, size, e]
  rfl

/-- The knots along the horizontal axis. -/
theorem knotW_apply (x : FVec Ideal S512x2048 .f32) (d : Fin 64) (k : Fin 33) (r : Fin 512) :
    k0_pay10 (F := Ideal) (k0_pay7 x) k0_pay8 (k0_pay9 x) (ix3 d k r) = knot (size (row32 x r d)) k.val := by
  have h7 : ∀ m : Fin 32, k0_pay7 (F := Ideal) x (ix3 d m r) = shift 1 (size (row32 x r d)) m.val := by
    intro m
    pointwise [k0_pay7, pay5_apply, shift]
    rfl
  have hr : knot (size (row32 x r d)) k.val
      = (if k.val < 1 then 0 else rounds (size (row32 x r d)) (k.val - 1)) - half * rounds (size (row32 x r d)) 31 := by
    rw [rounds_eq _ 31 (by omega)]
    unfold knot
    split_ifs with hk
    · rw [show k.val = 0 by omega]; rfl
    · rw [rounds_eq _ _ (by omega), show k.val - 1 + 1 = k.val by omega]
  rw [hr]
  pointwise [k0_pay10, k0_pay8, k0_pay9]
  simp only [h7]
  unfold rounds
  generalize shift 1 (size (row32 x r d)) = g
  simp [shift, half]

/-- The knots along the vertical axis. -/
theorem knotH_apply (x : FVec Ideal S512x2048 .f32) (d : Fin 64) (k : Fin 33) (r : Fin 512) :
    k0_pay11 (F := Ideal) (k0_pay6 x) (ix3 d k r) = knot (size (row32 x r d)) k.val := by
  have hr : knot (size (row32 x r d)) k.val
      = (if k.val < 1 then 0 else rounds (size (row32 x r d)) (k.val - 1)) - half * rounds (size (row32 x r d)) 31 := by
    rw [rounds_eq _ 31 (by omega)]
    unfold knot
    split_ifs with hk
    · rw [show k.val = 0 by omega]; rfl
    · rw [rounds_eq _ _ (by omega), show k.val - 1 + 1 = k.val by omega]
  rw [hr]
  pointwise [k0_pay11]
  simp only [pay6_apply]
  unfold rounds
  generalize size (row32 x r d) = g
  simp [shift, half]

/-- The raw derivatives of a tile. -/
theorem pay31_apply (x : FVec Ideal S512x2112 .f32) (d : Fin 64) (k : Fin 33) (r : Fin 512) :
    k0_pay31 (F := Ideal) x (ix3 d k r) = row33 x r d k := by
  pointwise [k0_pay31]
  rfl

/-! ## The masks -/

/-- The mask of the points left of the first knot. -/
theorem pay16_apply (v : FVec Ideal S64x512 .f32) (w : FVec Ideal S64x33x512 .f32) (d : Fin 64) (r : Fin 512) :
    k0_pay16 (F := Ideal) v w (ix2 d r) = BitVec.ofBool (decide (v (ix2 d r) < w (ix3 d 0 r))) := by
  pointwise [k0_pay16, k0_pay12]

/-- The mask of the points at or right of the last knot. -/
theorem pay17_apply (v : FVec Ideal S64x512 .f32) (w : FVec Ideal S64x33x512 .f32) (d : Fin 64) (r : Fin 512) :
    k0_pay17 (F := Ideal) v w (ix2 d r) = BitVec.ofBool (decide (w (ix3 d 32 r) ≤ v (ix2 d r))) := by
  pointwise [k0_pay17, k0_pay13]

/-- Between the knots the point is kept. -/
theorem pay18_apply (v : FVec Ideal S64x512 .f32) (w : FVec Ideal S64x33x512 .f32) (d : Fin 64) (r : Fin 512)
    (h0 : ¬ v (ix2 d r) < w (ix3 d 0 r)) (h1 : ¬ w (ix3 d 32 r) ≤ v (ix2 d r)) :
    k0_pay18 (F := Ideal) v w (ix2 d r) = v (ix2 d r) := by
  pointwise [k0_pay18, pay16_apply, pay17_apply]
  simp [h0, h1, Scalar.select, IntOp.ori, IntOp.xori]

/-! ## The bin -/

/-- The word of a count: the indicators' sum as a real, rounded to an integer, less one. -/
theorem word_count (p : Fin 33 → Prop) [DecidablePred p] (N : ℕ) (hN : N = ∑ n : Fin 33, if p n then (1 : ℕ) else 0) (h1 : 1 ≤ N) (h2 : N ≤ 33) :
    IntOp.subi (Ideal.fptosi 32 (∑ n : Fin 33, (FloatOps.sitofp (F := Ideal) .f32 (BitVec.setWidth 32 (BitVec.ofBool (decide (p n)))) : EReal))) 1#32
      = BitVec.ofNat 32 (N - 1) := by
  have e : (∑ n : Fin 33, (FloatOps.sitofp (F := Ideal) .f32 (BitVec.setWidth 32 (BitVec.ofBool (decide (p n)))) : EReal)) = ((N : ℝ) : EReal) := by
    rw [EReal.coe_natCast, hN, Nat.cast_sum]
    refine Finset.sum_congr rfl fun n _ => ?_
    have s1 : (FloatOps.sitofp (F := Ideal) .f32 (1#32) : EReal) = 1 := by
      show (((1#32 : BitVec 32).toInt : ℝ) : EReal) = 1
      norm_num
    have s0 : (FloatOps.sitofp (F := Ideal) .f32 (0#32) : EReal) = 0 := by
      show (((0#32 : BitVec 32).toInt : ℝ) : EReal) = 0
      norm_num
    by_cases hp : p n
    · simpa [hp] using s1
    · simpa [hp] using s0
  rw [e]
  clear hN e
  have h3 : N = (N - 1) + 1 := by omega
  generalize N - 1 = q at h3
  subst h3
  unfold Ideal.fptosi IntOp.subi
  rw [Ideal.toIntClamped_coe, if_pos (by positivity), Int.floor_natCast]
  have h4 : max (-((2 ^ (32 - 1) : ℕ) : ℤ)) (min (((2 ^ (32 - 1) : ℕ) : ℤ) - 1) ((q + 1 : ℕ) : ℤ)) = ((q + 1 : ℕ) : ℤ) := by
    norm_num
    omega
  rw [h4, BitVec.ofInt_natCast, BitVec.ofNat_add]
  exact BitVec.add_sub_cancel _ _

/-- The bin's number: the count of knots at or below the point, less one. -/
theorem pay19_apply (v : FVec Ideal S64x512 .f32) (w : FVec Ideal S64x33x512 .f32) (d : Fin 64) (r : Fin 512) (f : ℕ → EReal)
    (hw : ∀ k : Fin 33, w (ix3 d k r) = knot f k.val)
    (h0 : ¬ v (ix2 d r) < knot f 0) (h1 : ¬ knot f 32 ≤ v (ix2 d r)) :
    k0_pay19 (F := Ideal) v w (ix3 d (0 : Fin 1) r) = BitVec.ofNat 32 (count f (v (ix2 d r)) - 1) := by
  obtain ⟨c1, c2⟩ := count_bounds f _ h0 h1
  have e18 := pay18_apply v w d r (by rw [hw]; exact h0) (by rw [hw]; exact h1)
  have hc : count f (v (ix2 d r)) = ∑ n : Fin 33, if w (ix3 d n r) ≤ v (ix2 d r) then (1 : ℕ) else 0 := by
    rw [count_eq]
    exact Finset.sum_congr rfl fun k _ => by rw [hw]
  refine Eq.trans ?_ (word_count (fun n : Fin 33 => w (ix3 d n r) ≤ v (ix2 d r)) _ hc c1 (by omega))
  rw [← halves_last]
  pointwise [k0_pay19, e18]
  rfl

/-- Comparing small numbers as words. -/
theorem word_eq (k j : ℕ) (hk : k < 64) (hj : j < 64) :
    IntOp.cmpi .eq (BitVec.ofNat 32 k) (BitVec.ofNat 32 j) = BitVec.ofBool (decide (k = j)) := by
  unfold IntOp.cmpi
  congr 1
  rw [Bool.eq_iff_iff]
  simp only [beq_iff_eq, decide_eq_true_eq]
  constructor
  · intro h
    have := congrArg BitVec.toNat h
    simp only [BitVec.toNat_ofNat] at this
    omega
  · rintro rfl; rfl

section Bin
variable (v : FVec Ideal S64x512 .f32) (w : FVec Ideal S64x33x512 .f32) (d : Fin 64) (r : Fin 512) (j : ℕ) (hj : j < 32)
  (h : k0_pay19 (F := Ideal) v w (ix3 d (0 : Fin 1) r) = BitVec.ofNat 32 j)
include hj h

/-- The marker of the bin's lower knot. -/
theorem pay20_apply (k : Fin 33) :
    k0_pay20 (F := Ideal) v w (ix3 d k r) = BitVec.ofBool (decide (k = Fin.ofNat 33 j)) := by
  pointwise [k0_pay20, h]
  rw [word_eq _ _ (by omega) (by omega)]
  congr 2
  rw [Fin.ext_iff, Fin.val_ofNat, Nat.mod_eq_of_lt (by omega)]

/-- The marker of the bin's upper knot. -/
theorem pay21_apply (k : Fin 33) :
    k0_pay21 (F := Ideal) v w (ix3 d k r) = BitVec.ofBool (decide (k = Fin.ofNat 33 (j + 1))) := by
  have e : IntOp.addi (BitVec.ofNat 32 j) 1#32 = BitVec.ofNat 32 (j + 1) := (BitVec.ofNat_add j 1).symm
  pointwise [k0_pay21, h, e]
  rw [word_eq _ _ (by omega) (by omega)]
  congr 2
  rw [Fin.ext_iff, Fin.val_ofNat, Nat.mod_eq_of_lt (by omega)]

/-- The marker of the bin. -/
theorem pay22_apply (k : Fin 32) :
    k0_pay22 (F := Ideal) v w (ix3 d k r) = BitVec.ofBool (decide (k = Fin.ofNat 32 j)) := by
  pointwise [k0_pay22, h]
  rw [word_eq _ _ (by omega) (by omega)]
  congr 2
  rw [Fin.ext_iff, Fin.val_ofNat, Nat.mod_eq_of_lt (by omega)]

/-- The lower knot of the bin. -/
theorem pay24_apply : k0_pay24 (F := Ideal) (k0_pay23 v w) (ix2 d r) = w (ix3 d (Fin.ofNat 33 j) r) := by
  refine Eq.trans ?_ (sum_pick (fun k => w (ix3 d k r)) _ _ (pay20_apply v w d r j hj h))
  rw [← halves_last]
  pointwise [k0_pay24, k0_pay23]
  rfl

end Bin

section Gather
variable (d : Fin 64) (r : Fin 512)

/-- The height at the lower knot of the bin. -/
theorem pay25_apply (g : FVec Ideal S64x33x512 .f32) (c : IVec S64x33x512 1) (j : Fin 33)
    (hc : ∀ k : Fin 33, c (ix3 d k r) = BitVec.ofBool (decide (k = j))) :
    k0_pay25 (F := Ideal) g c (ix2 d r) = g (ix3 d j r) := by
  refine Eq.trans ?_ (sum_pick (fun k => g (ix3 d k r)) _ _ hc)
  rw [← halves_last]
  pointwise [k0_pay25]
  rfl

/-- The width of the bin. -/
theorem pay29_apply (g : FVec Ideal S64x32x512 .f32) (c : IVec S64x32x512 1) (j : Fin 32)
    (hc : ∀ k : Fin 32, c (ix3 d k r) = BitVec.ofBool (decide (k = j))) :
    k0_pay29 (F := Ideal) (k0_pay27 g c) (k0_pay28 g c) (ix2 d r) = g (ix3 d j r) := by
  refine Eq.trans ?_ (sum_pick (fun k => g (ix3 d k r)) _ _ hc)
  rw [← halves_eq]
  pointwise [k0_pay29, k0_pay27, k0_pay28, k0_pay26]
  rfl

/-- The height of the bin. -/
theorem pay30_apply (g : FVec Ideal S64x32x512 .f32) (c : IVec S64x32x512 1) (j : Fin 32)
    (hc : ∀ k : Fin 32, c (ix3 d k r) = BitVec.ofBool (decide (k = j))) :
    k0_pay30 (F := Ideal) g c (ix2 d r) = g (ix3 d j r) := by
  refine Eq.trans ?_ (sum_pick (fun k => g (ix3 d k r)) _ _ hc)
  rw [← halves_eq]
  pointwise [k0_pay30]
  rfl

/-- The derivative at the lower knot of the bin. -/
theorem pay38_apply (x : FVec Ideal S512x2112 .f32) (c : IVec S64x33x512 1) (j : Fin 33)
    (hc : ∀ k : Fin 33, c (ix3 d k r) = BitVec.ofBool (decide (k = j))) :
    k0_pay38 (F := Ideal) (k0_pay32 c x) (ix2 d r) = pos (row33 x r d j) := by
  have e : k0_pay32 (F := Ideal) c x (ix2 d r) = row33 x r d j := by
    refine Eq.trans ?_ (sum_pick (row33 x r d) _ _ hc)
    rw [← halves_last]
    pointwise [k0_pay32, pay31_apply]
    rfl
  pointwise [k0_pay38, e]
  rfl

/-- The derivative at the upper knot of the bin. -/
theorem pay39_apply (x : FVec Ideal S512x2112 .f32) (c : IVec S64x33x512 1) (j : Fin 33)
    (hc : ∀ k : Fin 33, c (ix3 d k r) = BitVec.ofBool (decide (k = j))) :
    k0_pay39 (F := Ideal) (k0_pay34 c x) (k0_pay35 c x) (k0_pay36 c x) (ix2 d r) = pos (row33 x r d j) := by
  have e := sum_pick (row33 x r d) _ _ hc
  rw [← halves_last] at e
  rw [← e]
  pointwise [k0_pay39, k0_pay34, k0_pay35, k0_pay36, k0_pay33, pay31_apply]
  rfl

/-- The derivative at the first knot. -/
theorem pay40_apply (x : FVec Ideal S512x2112 .f32) :
    k0_pay40 (F := Ideal) (k0_pay31 x) (ix2 d r) = pos (row33 x r d 0) := by
  pointwise [k0_pay40, pay31_apply]
  rfl

/-- The derivative at the last knot. -/
theorem pay43_apply (x : FVec Ideal S512x2112 .f32) :
    k0_pay43 (F := Ideal) (k0_pay41 (k0_pay31 x)) (k0_pay42 (k0_pay31 x)) (ix2 d r) = pos (row33 x r d 32) := by
  pointwise [k0_pay43, k0_pay41, k0_pay42, k0_pay37, pay31_apply]
  rfl

end Gather

/-! ## The two stored arrays -/

section Stored
variable (x cx cy : FVec Ideal S512x64 .f32) (uw uh : FVec Ideal S512x2048 .f32) (ud : FVec Ideal S512x2112 .f32)

/-- The centered points of a tile. -/
def zT : FVec Ideal S64x512 .f32 := k0_pay4 x cx
/-- The horizontal knots of a tile. -/
def eT : FVec Ideal S64x33x512 .f32 := k0_pay10 (k0_pay7 uw) k0_pay8 (k0_pay9 uw)
/-- The vertical knots of a tile. -/
def gT : FVec Ideal S64x33x512 .f32 := k0_pay11 (k0_pay6 uh)
/-- The points of a tile that lie between the knots, the others replaced. -/
def sT : FVec Ideal S64x512 .f32 := k0_pay18 (zT x cx) (eT uw)
/-- The lower knot of every point's bin. -/
def loT : FVec Ideal S64x512 .f32 := k0_pay24 (k0_pay23 (zT x cx) (eT uw))
/-- The width of every point's bin. -/
def wT : FVec Ideal S64x512 .f32 :=
  k0_pay29 (k0_pay27 (k0_pay5 uw) (k0_pay22 (zT x cx) (eT uw))) (k0_pay28 (k0_pay5 uw) (k0_pay22 (zT x cx) (eT uw)))
/-- The height of every point's bin. -/
def hT : FVec Ideal S64x512 .f32 := k0_pay30 (k0_pay6 uh) (k0_pay22 (zT x cx) (eT uw))
/-- The derivative at the lower knot of every point's bin. -/
def aT : FVec Ideal S64x512 .f32 := k0_pay38 (k0_pay32 (k0_pay20 (zT x cx) (eT uw)) ud)
/-- The derivative at the upper knot of every point's bin. -/
def bT : FVec Ideal S64x512 .f32 :=
  k0_pay39 (k0_pay34 (k0_pay21 (zT x cx) (eT uw)) ud) (k0_pay35 (k0_pay21 (zT x cx) (eT uw)) ud)
    (k0_pay36 (k0_pay21 (zT x cx) (eT uw)) ud)

/-- The first array the body stores. -/
def out : FVec Ideal S512x64 .f32 :=
  k0_pay1 (k0_pay16 (zT x cx) (eT uw)) (k0_pay17 (zT x cx) (eT uw))
    (k0_pay44 (k0_pay3 cy) (zT x cx) (k0_pay12 (eT uw)) (k0_pay14 (gT uh)) (k0_pay40 (k0_pay31 ud)))
    (k0_pay45 (k0_pay3 cy) (zT x cx) (k0_pay13 (eT uw)) (k0_pay15 (gT uh)) (k0_pay41 (k0_pay31 ud)) (k0_pay42 (k0_pay31 ud)))
    (k0_pay52 (k0_pay3 cy) (sT x cx uw) (loT x cx uw) (k0_pay25 (gT uh) (k0_pay20 (zT x cx) (eT uw))) (wT x cx uw)
      (hT x cx uw uh) (aT x cx uw ud) (bT x cx uw ud))

/-- The second array the body stores. -/
def lad : FVec Ideal S512x64 .f32 :=
  k0_pay2 (k0_pay16 (zT x cx) (eT uw)) (k0_pay17 (zT x cx) (eT uw)) (k0_pay46 (k0_pay40 (k0_pay31 ud)))
    (k0_pay47 (k0_pay41 (k0_pay31 ud)) (k0_pay42 (k0_pay31 ud)))
    (k0_pay51 (sT x cx uw) (loT x cx uw) (wT x cx uw) (hT x cx uw uh) (aT x cx uw ud) (bT x cx uw ud))
    (k0_pay53 (sT x cx uw) (loT x cx uw) (wT x cx uw) (hT x cx uw uh) (aT x cx uw ud) (bT x cx uw ud))

variable (r : Fin 512) (d : Fin 64)

/-- The centered point at an entry. -/
theorem zT_apply : zT x cx (ix2 d r) = x (ix2 r d) - cx (ix2 r d) := pay4_apply x cx d r

/-- A horizontal knot at an entry. -/
theorem eT_apply (k : Fin 33) : eT uw (ix3 d k r) = knot (size (row32 uw r d)) k.val := knotW_apply uw d k r

/-- A vertical knot at an entry. -/
theorem gT_apply (k : Fin 33) : gT uh (ix3 d k r) = knot (size (row32 uh r d)) k.val := knotH_apply uh d k r

/-- What the gathers hold where the point lies between the knots. -/
theorem inside (h0 : ¬ x (ix2 r d) - cx (ix2 r d) < knot (size (row32 uw r d)) 0)
    (h1 : ¬ knot (size (row32 uw r d)) 32 ≤ x (ix2 r d) - cx (ix2 r d))
    (j : ℕ) (hj : j = count (size (row32 uw r d)) (x (ix2 r d) - cx (ix2 r d)) - 1) :
    sT x cx uw (ix2 d r) = x (ix2 r d) - cx (ix2 r d) ∧ loT x cx uw (ix2 d r) = knot (size (row32 uw r d)) j
      ∧ k0_pay25 (gT uh) (k0_pay20 (zT x cx) (eT uw)) (ix2 d r) = knot (size (row32 uh r d)) j
      ∧ wT x cx uw (ix2 d r) = size (row32 uw r d) j ∧ hT x cx uw uh (ix2 d r) = size (row32 uh r d) j
      ∧ aT x cx uw ud (ix2 d r) = pos (row33 ud r d (Fin.ofNat 33 j))
      ∧ bT x cx uw ud (ix2 d r) = pos (row33 ud r d (Fin.ofNat 33 (j + 1))) := by
  obtain ⟨c1, c2⟩ := count_bounds _ _ h0 h1
  have hj' : j < 32 := by omega
  have hk : (Fin.ofNat 33 j).val = j := Nat.mod_eq_of_lt (by omega)
  have hk' : (Fin.ofNat 32 j).val = j := Nat.mod_eq_of_lt (by omega)
  have hi := pay19_apply (zT x cx) (eT uw) d r (size (row32 uw r d)) (eT_apply uw r d)
    (by rw [zT_apply]; exact h0) (by rw [zT_apply]; exact h1)
  rw [zT_apply, ← hj] at hi
  have h20 := pay20_apply (zT x cx) (eT uw) d r j hj' hi
  have h21 := pay21_apply (zT x cx) (eT uw) d r j hj' hi
  have h22 := pay22_apply (zT x cx) (eT uw) d r j hj' hi
  refine ⟨?_, ?_, ?_, ?_, ?_, ?_, ?_⟩
  · refine (pay18_apply _ _ d r ?_ ?_).trans (zT_apply x cx r d)
    · rw [zT_apply, eT_apply]; exact h0
    · rw [zT_apply, eT_apply]; exact h1
  · exact (pay24_apply _ _ d r j hj' hi).trans ((eT_apply uw r d _).trans (by rw [hk]))
  · exact (pay25_apply d r _ _ _ h20).trans ((gT_apply uh r d _).trans (by rw [hk]))
  · exact (pay29_apply d r _ _ _ h22).trans ((pay5_apply uw d _ r).trans (by rw [hk']))
  · exact (pay30_apply d r _ _ _ h22).trans ((pay6_apply uh d _ r).trans (by rw [hk']))
  · exact pay38_apply d r ud _ _ h20
  · exact pay39_apply d r ud _ _ h21

/-- The first stored array holds the spline's value. -/
theorem out_apply : out x cx cy uw uh ud (ix2 r d)
    = value (x (ix2 r d)) (cx (ix2 r d)) (cy (ix2 r d)) (row32 uw r d) (row32 uh r d) (row33 ud r d) := by
  unfold value
  pointwise [out, k0_pay1, pay16_apply, pay17_apply, zT_apply, eT_apply]
  by_cases h0 : x (ix2 r d) - cx (ix2 r d) < knot (size (row32 uw r d)) 0
  · simp only [if_pos h0]
    pointwise [k0_pay44, k0_pay12, k0_pay14, pay40_apply, pay3_apply, zT_apply, eT_apply, gT_apply]
  · by_cases h1 : knot (size (row32 uw r d)) 32 ≤ x (ix2 r d) - cx (ix2 r d)
    · simp only [if_neg h0, if_pos h1]
      pointwise [k0_pay45, k0_pay13, k0_pay15, pay43_apply, pay3_apply, zT_apply, eT_apply, gT_apply]
    · obtain ⟨e1, e2, e3, e4, e5, e6, e7⟩ := inside x cx uw uh ud r d h0 h1 _ rfl
      simp only [if_neg h0, if_neg h1]
      pointwise [k0_pay52, k0_pay51, k0_pay50, k0_pay49, k0_pay48, pay3_apply, e1, e2, e3, e4, e5, e6, e7]
      rfl

/-- The second stored array holds the logarithm of the spline's slope. -/
theorem lad_apply : lad x cx uw uh ud (ix2 r d)
    = logSlope (x (ix2 r d)) (cx (ix2 r d)) (row32 uw r d) (row32 uh r d) (row33 ud r d) := by
  unfold logSlope
  pointwise [lad, k0_pay2, pay16_apply, pay17_apply, zT_apply, eT_apply]
  by_cases h0 : x (ix2 r d) - cx (ix2 r d) < knot (size (row32 uw r d)) 0
  · simp only [if_pos h0]
    pointwise [k0_pay46, pay40_apply]
  · by_cases h1 : knot (size (row32 uw r d)) 32 ≤ x (ix2 r d) - cx (ix2 r d)
    · simp only [if_neg h0, if_pos h1]
      pointwise [k0_pay47, pay43_apply]
    · obtain ⟨e1, e2, e3, e4, e5, e6, e7⟩ := inside x cx uw uh ud r d h0 h1 _ rfl
      simp only [if_neg h0, if_neg h1]
      pointwise [k0_pay53, k0_pay51, k0_pay50, k0_pay49, k0_pay48, e1, e2, e4, e5, e6, e7]
      rfl

end Stored

end Cert.KernelIdeal.Tile
-- ==== Proof.Result.lean ====
/-
  The kernel's two result arrays, entry by entry: the spline's value and the logarithm of its slope, of the argument
  arrays.
-/
module

public import proofs.«01_k».proof.Proof.Gen.KernelIdeal.Frame
public import proofs.«01_k».proof.Proof.Tile
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Result
open Cert.KernelIdeal Cert.KernelIdeal.Gen Cert.Spline Cert.KernelIdeal.Tile

/-- The spline's value at every entry of the argument arrays. -/
def values (x : FVec Ideal S4096x64 .f32) (uw uh : FVec Ideal S4096x64x32 .f32) (ud : FVec Ideal S4096x64x33 .f32)
    (cx cy : FVec Ideal S4096x64 .f32) : FVec Ideal S4096x64 .f32 := fun i =>
  value (x i) (cx i) (cy i) (fun k => uw (ix3 (i 0 : Fin 4096) (i 1 : Fin 64) k)) (fun k => uh (ix3 (i 0 : Fin 4096) (i 1 : Fin 64) k))
    (fun k => ud (ix3 (i 0 : Fin 4096) (i 1 : Fin 64) k))

/-- The logarithm of the spline's slope at every entry of the argument arrays. -/
def slopes (x : FVec Ideal S4096x64 .f32) (uw uh : FVec Ideal S4096x64x32 .f32) (ud : FVec Ideal S4096x64x33 .f32)
    (cx : FVec Ideal S4096x64 .f32) : FVec Ideal S4096x64 .f32 := fun i =>
  logSlope (x i) (cx i) (fun k => uw (ix3 (i 0 : Fin 4096) (i 1 : Fin 64) k)) (fun k => uh (ix3 (i 0 : Fin 4096) (i 1 : Fin 64) k))
    (fun k => ud (ix3 (i 0 : Fin 4096) (i 1 : Fin 64) k))

variable (m : (ℓ : Loc nD τ sig) → Buf (Elt Ideal) ℓ) (c : Dev nD) (t : Fin cfg0.N)

/-- Every window moves 512 rows a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ t.val < 8 :=
  (by decide +kernel : ∀ t : Fin grid0.N, _)

/-- The array row at row `r` of point `t`'s blocks. -/
def row (r : Fin 512) : Fin 4096 := ⟨t.val * 512 + r.val, by have := (idx t).2.2.2.2.2.2.2.2; omega⟩

/-- A block of inputs reads the array's rows. -/
theorem block0 (r : Fin 512) (d : Fin 64) :
    (iblk m c 0 t : FVec Ideal S512x64 .f32) (ix2 r d) = m ((c : Thread nD τ).loc main_arg0) (ix2 (row t r) d) := by
  blk_ext [iblk, V, idx t, row]

/-- A block of first centres reads the array's rows. -/
theorem block1 (r : Fin 512) (d : Fin 64) :
    (iblk m c 1 t : FVec Ideal S512x64 .f32) (ix2 r d) = m ((c : Thread nD τ).loc main_arg4) (ix2 (row t r) d) := by
  blk_ext [iblk, V, idx t, row]

/-- A block of second centres reads the array's rows. -/
theorem block2 (r : Fin 512) (d : Fin 64) :
    (iblk m c 2 t : FVec Ideal S512x64 .f32) (ix2 r d) = m ((c : Thread nD τ).loc main_arg5) (ix2 (row t r) d) := by
  blk_ext [iblk, V, idx t, row]

/-- A block of raw widths reads the array's rows. -/
theorem block3 (r : Fin 512) (d : Fin 64) (k : Fin 32) :
    row32 (iblk m c 3 t) r d k = m ((c : Thread nD τ).loc main_arg1) (ix3 (row t r) d k) := by
  unfold row32
  blk_simp [iblk]
  entry_read
  pointwise
  have hk := k.isLt
  have hd := d.isLt
  blk_ext [idx t, row]

/-- A block of raw heights reads the array's rows. -/
theorem block4 (r : Fin 512) (d : Fin 64) (k : Fin 32) :
    row32 (iblk m c 4 t) r d k = m ((c : Thread nD τ).loc main_arg2) (ix3 (row t r) d k) := by
  unfold row32
  blk_simp [iblk]
  entry_read
  pointwise
  have hk := k.isLt
  have hd := d.isLt
  blk_ext [idx t, row]

/-- A block of raw slopes reads the array's rows. -/
theorem block5 (r : Fin 512) (d : Fin 64) (k : Fin 33) :
    row33 (iblk m c 5 t) r d k = m ((c : Thread nD τ).loc main_arg3) (ix3 (row t r) d k) := by
  unfold row33
  blk_simp [iblk]
  entry_read
  pointwise
  have hk := k.isLt
  have hd := d.isLt
  blk_ext [idx t, row]

/-- Of the point's first output block, every entry is the spline's value there. -/
theorem point6 (y : S512x64.Idx) :
    out (iblk m c 0 t) (iblk m c 1 t) (iblk m c 2 t) (iblk m c 3 t) (iblk m c 4 t) (iblk m c 5 t) y
      = values (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 (row t (y 0)) (y 1 : Fin 64)) := by
  obtain ⟨r, d, rfl⟩ : ∃ (r : Fin 512) (d : Fin 64), y = ix2 r d := ⟨y 0, y 1, eq_ix2 y⟩
  refine (out_apply _ _ _ _ _ _ r d).trans ?_
  rw [block0, block1, block2, funext (block3 m c t r d), funext (block4 m c t r d), funext (block5 m c t r d)]
  rfl

/-- Of the point's second output block, every entry is the logarithm of the spline's slope there. -/
theorem point7 (y : S512x64.Idx) :
    lad (iblk m c 0 t) (iblk m c 1 t) (iblk m c 3 t) (iblk m c 4 t) (iblk m c 5 t) y
      = slopes (m ((c : Thread nD τ).loc main_arg0)) (m ((c : Thread nD τ).loc main_arg1)) (m ((c : Thread nD τ).loc main_arg2))
        (m ((c : Thread nD τ).loc main_arg3)) (m ((c : Thread nD τ).loc main_arg4)) (ix2 (row t (y 0)) (y 1 : Fin 64)) := by
  obtain ⟨r, d, rfl⟩ : ∃ (r : Fin 512) (d : Fin 64), y = ix2 r d := ⟨y 0, y 1, eq_ix2 y⟩
  refine (lad_apply _ _ _ _ _ r d).trans ?_
  rw [block0, block1, funext (block3 m c t r d), funext (block4 m c t r d), funext (block5 m c t r d)]
  rfl

/-- An entry of the point's first output block sits in the array at the row it was computed for. -/
theorem place6 (y : S512x64.Idx) : ((cfg0.win 6).blk t).view.emb y = ix2 (row t (y 0)) (y 1 : Fin 64) := by
  blk_ext [idx t, row]

/-- An entry of the point's second output block sits in the array at the row it was computed for. -/
theorem place7 (y : S512x64.Idx) : ((cfg0.win 7).blk t).view.emb y = ix2 (row t (y 0)) (y 1 : Fin 64) := by
  blk_ext [idx t, row]

/-- The first result array holds the spline's values. -/
theorem final6 : (dats m 0 c).arrAt 6 (cfgs 0).N
    = values (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  rw [place6]
  blk_simp
  rw [after0_6]
  unfold_out out0_6
  frame_out
  have h := point6 m c t y
  unfold out sT loT wT hT aT bT zT eT gT at h
  exact h

/-- The second result array holds the logarithms of the spline's slopes. -/
theorem final7 : (dats m 0 c).arrAt 7 (cfgs 0).N
    = slopes (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  rw [place7]
  blk_simp
  rw [after0_7]
  unfold_out out0_7
  frame_out
  have h := point7 m c t y
  unfold lad sT loT wT hT aT bT zT eT at h
  exact h

end Cert.KernelIdeal.Result
-- ==== Proof.Algebraic.lean ====
/-
  Kernel against reference, on the extended reals: both result arrays hold the spline's values and the logarithms of
  its slopes, wherever the first centre is finite.
-/
module

public import proofs.«01_k».proof.Defs
public import proofs.«01_k».proof.Proof.Entry
public import proofs.«01_k».proof.Proof.Result
public import Idealize.ShloMosaic.Lib.Claim

@[expose] public section

set_option maxRecDepth 16384

noncomputable section

open Idealize.ShloMosaic Idealize.ShloMosaic.TcCoe Idealize.SL.Sem

namespace Cert.Pre_finite_center_x

/-- The precondition's one shape fact. -/
theorem facts : Facts := ⟨by decide⟩

attribute [local instance] facts

/-- Where the precondition holds, the first centre is a real number. -/
theorem real_of_pre (x : FVec Ideal S4096x64 .f32) (uw uh : FVec Ideal S4096x64x32 .f32) (ud : FVec Ideal S4096x64x33 .f32)
    (cx cy : FVec Ideal S4096x64 .f32) (h : fn x uw uh ud cx cy = fun _ => 1#1) (b : Fin 4096) (d : Fin 64) :
    ∃ r : ℝ, cx (ix2 b d) = (r : EReal) := by
  have h1 := congrFun h (ix2 b d)
  have h2 : fn x uw uh ud cx cy (ix2 b d) = BitVec.ofBool (decide (FloatOps.absf (F := Ideal) (φ := .f32) (cx (ix2 b d)) < (⊤ : EReal))) := by
    have top : Ideal.ofBits .f32 0x7F800000#32 = (⊤ : EReal) := by simp [Ideal.ofBits, Ideal.ieee]
    pointwise [fn]
    rw [top]
  rw [h2] at h1
  have h3 : FloatOps.absf (F := Ideal) (φ := .f32) (cx (ix2 b d)) < (⊤ : EReal) := by
    by_contra hn
    rw [decide_eq_false hn] at h1
    exact absurd h1 (by decide)
  generalize cx (ix2 b d) = z at h3
  change EReal at z
  induction z with
  | bot => exact absurd h3 (by simp [Ideal.absf_def])
  | top => exact absurd h3 (by simp [Ideal.absf_def])
  | coe r => exact ⟨r, rfl⟩

end Cert.Pre_finite_center_x

namespace Cert.ReferenceIdeal.Entry
open Cert.ReferenceIdeal Cert.ReferenceIdeal.Gen Cert.ReferenceIdeal.Read

variable (x : FVec Ideal S4096x64 .f32) (uw uh : FVec Ideal S4096x64x32 .f32) (ud : FVec Ideal S4096x64x33 .f32)
  (cx cy : FVec Ideal S4096x64 .f32)

/-- The reference's first result is the spline's values, where the first centre is finite. -/
theorem values_eq (h : ∀ (b : Fin 4096) (d : Fin 64), ∃ r : ℝ, cx (ix2 b d) = (r : EReal)) :
    val_main_v110 (F := Ideal) x uw uh ud cx cy = Cert.KernelIdeal.Result.values x uw uh ud cx cy := by
  funext i
  obtain ⟨b, d, rfl⟩ : ∃ (b : Fin 4096) (d : Fin 64), i = ix2 b d := ⟨i 0, i 1, eq_ix2 i⟩
  obtain ⟨r, hr⟩ := h b d
  exact value_apply x uw uh ud cx cy b d r hr

/-- The reference's second result is the logarithms of the spline's slopes, where the first centre is finite. -/
theorem slopes_eq (h : ∀ (b : Fin 4096) (d : Fin 64), ∃ r : ℝ, cx (ix2 b d) = (r : EReal)) :
    val_main_v129 (F := Ideal) x uw uh ud cx = Cert.KernelIdeal.Result.slopes x uw uh ud cx := by
  funext i
  obtain ⟨b, d, rfl⟩ : ∃ (b : Fin 4096) (d : Fin 64), i = ix2 b d := ⟨i 0, i 1, eq_ix2 i⟩
  obtain ⟨r, hr⟩ := h b d
  exact slope_apply x uw uh ud cx b d r hr

/-- The reference's run: its results are the spline's values and slopes of the arguments, and the arguments are unchanged. -/
theorem run (m : (ℓ : Loc nD τ sig) → Buf (Elt Ideal) ℓ) (g : Dev nD → PrngReg)
    (h : ∀ (c : Dev nD) (b : Fin 4096) (d : Fin 64), ∃ r : ℝ, (m ((c.tc : Thread nD τ).loc main_arg4) : FVec Ideal S4096x64 .f32) (ix2 b d) = (r : EReal)) :
    θ_run defs (onTc (τ := τ) (main (F := Ideal))) ⟨m, fun _ => 0, g⟩ fun r => ∀ c : Dev nD,
      r.2.mem ((c.tc : Thread nD τ).loc main_v110)
        = Cert.KernelIdeal.Result.values (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v129)
        = Cert.KernelIdeal.Result.slopes (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r e c =>
      ⟨(e c).1.trans ((val_main_v110_eq (StableHlo.launchContents m c)).trans (values_eq _ _ _ _ _ _ (h c))),
        (e c).2.1.trans ((val_main_v129_eq (StableHlo.launchContents m c)).trans (slopes_eq _ _ _ _ _ (h c))), (e c).2.2⟩)
    (Cert.ReferenceIdeal.Value.run (F := Ideal) m g)

end Cert.ReferenceIdeal.Entry

namespace Cert.Proof

/-- Kernel and reference end with equal results on the extended reals, where the first centre is finite. -/
theorem algebraic : Cert.algebraic_KernelIdeal_ReferenceIdeal_pre_finite_center_x (hKernelIdeal := Cert.KernelIdeal.Gen.facts)
    (hReferenceIdeal := Cert.ReferenceIdeal.Gen.facts) (hPre_finite_center_x := Cert.Pre_finite_center_x.facts) := by
  intro m g m' g' hpre hagree
  have hreal : ∀ (c : Dev Cert.ReferenceIdeal.nD) (b : Fin 4096) (d : Fin 64), ∃ r : ℝ,
      (m' ((c.tc : Thread Cert.ReferenceIdeal.nD Cert.ReferenceIdeal.τ).loc Cert.ReferenceIdeal.main_arg4) :
        FVec Ideal Cert.ReferenceIdeal.S4096x64 .f32) (ix2 b d) = (r : EReal) := by
    intro c b d
    rw [(hagree c).2.2.2.2.1]
    exact Cert.Pre_finite_center_x.real_of_pre _ _ _ _ _ _ (hpre c) b d
  refine ⟨_, _, ?_, Cert.ReferenceIdeal.Entry.run m' g' hreal⟩
  run_from Cert.KernelIdeal.Gen.run_main m g
  · exact Cert.KernelIdeal.Result.final6 m c
  · exact Cert.KernelIdeal.Result.final7 m c

end Cert.Proof
-- ==== Proof.lean ====
/-
  The assembled claim: the kernel, its ideal form and the reference leave their arguments unchanged and every semaphore
  at zero, the ideal form preserves the kernel, and kernel and reference end with equal results on the extended reals
  wherever the first centre is finite.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Algebraic
public import Idealize.ShloMosaic.Lib.Quiescent

@[expose] public section

noncomputable section

namespace Cert.Proof

open Idealize.ShloMosaic Idealize.ShloMosaic.TcCoe Idealize.SL.Sem

/-- The reference leaves its arguments unchanged and every semaphore at zero. -/
theorem frame_reference : Cert.quiescent_ReferenceIdeal (hReferenceIdeal := Cert.ReferenceIdeal.Gen.facts) := by
  intro m g _
  refine (θ_run Cert.ReferenceIdeal.defs _ _).mono (fun r h => ?_) (Cert.ReferenceIdeal.Value.run (F := Ideal) m g)
  exact ⟨fun c => (h c).2.2, Idealize.ShloMosaic.sem_eq_zero_of_no_sems (by decide) r.2⟩

/-- All the claims together. -/
theorem claim : Cert.Claim :=
  ⟨Cert.Kernel.Gen.facts, Cert.KernelIdeal.Gen.facts, Cert.ReferenceIdeal.Gen.facts, Cert.Pre_finite_center_x.facts,
    fun m g _ => Cert.Kernel.Gen.frame m g,
    fun m g _ => Cert.KernelIdeal.Gen.frame m g,
    fun m g _ => Cert.KernelIdeal.Gen.frame m g,
    frame_reference,
    fun m g _ => frame_reference m g trivial,
    trivial, algebraic⟩

end Cert.Proof

end
